-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_classes_in_range [hPre_classes_in_range : Cert.Pre_classes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_classes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes_in_range [hPre_classes_in_range : Cert.Pre_classes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_classes_in_range [hKernelIdeal : Cert.KernelIdeal.Facts] [hPre_classes_in_range : Cert.Pre_classes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_classes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_classes_in_range [hReferenceIdeal : Cert.ReferenceIdeal.Facts] [hPre_classes_in_range : Cert.Pre_classes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_classes_in_range [hKernelIdeal : Cert.KernelIdeal.Facts] [hReferenceIdeal : Cert.ReferenceIdeal.Facts] [hPre_classes_in_range : Cert.Pre_classes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_classes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_classes_in_range : Cert.Pre_classes_in_range.Facts),
    quiescent_Kernel (hKernel := hKernel)
    ∧ quiescent_KernelIdeal (hKernelIdeal := hKernelIdeal)
    ∧ quiescent_KernelIdeal_pre_classes_in_range (hKernelIdeal := hKernelIdeal) (hPre_classes_in_range := hPre_classes_in_range)
    ∧ quiescent_ReferenceIdeal (hReferenceIdeal := hReferenceIdeal)
    ∧ quiescent_ReferenceIdeal_pre_classes_in_range (hReferenceIdeal := hReferenceIdeal) (hPre_classes_in_range := hPre_classes_in_range)
    ∧ preserves_Kernel_KernelIdeal
    ∧ algebraic_KernelIdeal_ReferenceIdeal_pre_classes_in_range (hKernelIdeal := hKernelIdeal) (hReferenceIdeal := hReferenceIdeal) (hPre_classes_in_range := hPre_classes_in_range)
-- ==== Pre_classes_in_range.lean ====
abbrev S200x1024x126 : Shape := ⟨3, ![200, 1024, 126]⟩
abbrev S200x1024 : Shape := ⟨2, ![200, 1024]⟩
abbrev S1024x126 : Shape := ⟨2, ![1024, 126]⟩
abbrev S_ : Shape := ⟨0, ![]⟩
abbrev S1x126 : Shape := ⟨2, ![1, 126]⟩
abbrev S1 : Shape := ⟨1, ![1]⟩

class Facts : Prop where
  bcast_S_S1024x126 : S_.BroadcastsInDim S1024x126 (![] : Fin 0 → Fin S1024x126.rank)

variable [Facts]

def fn {F : FTy → Type} [FloatOps F] (main_arg0 : FVec F S200x1024x126 .f32) (main_arg1 : FVec F S200x1024 .f32) (main_arg2 : IVec S1024x126 32) (main_arg3 : FVec F S_ .f32) (main_arg4 : FVec F S1x126 .f32) (main_arg5 : FVec F S1 .f32) : IVec S1024x126 1 :=
  let main_c : IVec S_ 32 := constantI S_ 32 0#32
  let main_v0 : IVec S1024x126 32 := broadcastInDim S1024x126 ![] bcast_S_S1024x126 main_c
  let main_v1 : IVec S1024x126 1 := cmpi .sge main_arg2 main_v0
  let main_c_0 : IVec S_ 32 := constantI S_ 32 5#32
  let main_v2 : IVec S1024x126 32 := broadcastInDim S1024x126 ![] bcast_S_S1024x126 main_c_0
  let main_v3 : IVec S1024x126 1 := cmpi .slt main_arg2 main_v2
  let main_v4 : IVec S1024x126 1 := andi main_v1 main_v3
  main_v4
-- ==== Kernel.lean ====
abbrev S200x1024x126 : Shape := ⟨3, ![200, 1024, 126]⟩
abbrev S200x1024 : Shape := ⟨2, ![200, 1024]⟩
abbrev S1024x126 : Shape := ⟨2, ![1024, 126]⟩
abbrev S_ : Shape := ⟨0, ![]⟩
abbrev S1x126 : Shape := ⟨2, ![1, 126]⟩
abbrev S1 : Shape := ⟨1, ![1]⟩
abbrev S200x1x8x128x126 : Shape := ⟨5, ![200, 1, 8, 128, 126]⟩
abbrev S200x1x8x128 : Shape := ⟨4, ![200, 1, 8, 128]⟩
abbrev S1x8x128 : Shape := ⟨3, ![1, 8, 128]⟩
abbrev S25x1x8x128x126 : Shape := ⟨5, ![25, 1, 8, 128, 126]⟩
abbrev S25x1x8x128 : Shape := ⟨4, ![25, 1, 8, 128]⟩
abbrev S1x1x8x128x126 : Shape := ⟨5, ![1, 1, 8, 128, 126]⟩
abbrev S8x128x126 : Shape := ⟨3, ![8, 128, 126]⟩
abbrev S126x8x128 : Shape := ⟨3, ![126, 8, 128]⟩
abbrev S8x128 : Shape := ⟨2, ![8, 128]⟩
abbrev S1x1 : Shape := ⟨2, ![1, 1]⟩
abbrev S1x1x8x128 : Shape := ⟨4, ![1, 1, 8, 128]⟩
abbrev S1024x1 : Shape := ⟨2, ![1024, 1]⟩

abbrev nBuf : Space → Nat
  | .hbm => 10
  | .vmem => 5
  | .smem => 2
  | _ => 0

abbrev bufTy : (tb : Table) → Fin (tcTables nBuf tb) → BufTy
  | .hbm, ⟨0, _⟩ => ⟨S200x1024x126, .f32⟩
  | .hbm, ⟨1, _⟩ => ⟨S200x1024, .f32⟩
  | .hbm, ⟨2, _⟩ => ⟨S1024x126, .i32⟩
  | .hbm, ⟨3, _⟩ => ⟨S_, .f32⟩
  | .hbm, ⟨4, _⟩ => ⟨S1x126, .f32⟩
  | .hbm, ⟨5, _⟩ => ⟨S1, .f32⟩
  | .hbm, ⟨6, _⟩ => ⟨S200x1x8x128x126, .f32⟩
  | .hbm, ⟨7, _⟩ => ⟨S200x1x8x128, .f32⟩
  | .hbm, ⟨8, _⟩ => ⟨S1x8x128, .f32⟩
  | .hbm, ⟨9, _⟩ => ⟨S1024x1, .f32⟩
  | .local _ .vmem, ⟨0, _⟩ => ⟨S25x1x8x128x126, .f32⟩
  | .local _ .vmem, ⟨1, _⟩ => ⟨S25x1x8x128x126, .f32⟩
  | .local _ .vmem, ⟨2, _⟩ => ⟨S25x1x8x128, .f32⟩
  | .local _ .vmem, ⟨3, _⟩ => ⟨S25x1x8x128, .f32⟩
  | .local _ .vmem, ⟨4, _⟩ => ⟨S1x8x128, .f32⟩
  | .local _ .smem, ⟨0, _⟩ => ⟨S1x126, .f32⟩
  | .local _ .smem, ⟨1, _⟩ => ⟨S1, .f32⟩
  | _, _ => ⟨S200x1024x126, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg4_0 : Ref sig .tc := ⟨.vmem, 4, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v91799 : BitVec 1 := Scalar.cmpi .eq arg1 c0_i32
  let v91800 : BitVec 32 := Scalar.extui v91799
  let c0_i32_6473 : BitVec 32 := 0#32
  let v91801 : BitVec 1 := Scalar.cmpi .ne v91800 c0_i32_6473
  v91801

def k0_cond2 (i : grid0.Coords) : BitVec 1 :=
  let arg1 : BitVec 32 := BitVec.ofNat 32 (i 1).val
  let c0_i32_6474 : BitVec 32 := 0#32
  let v91802 : BitVec 1 := Scalar.cmpi .sgt arg1 c0_i32_6474
  let v91803 : BitVec 32 := Scalar.extui v91802
  let c0_i32_6475 : BitVec 32 := 0#32
  let v91804 : BitVec 1 := Scalar.cmpi .ne v91803 c0_i32_6475
  v91804

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S25x1x8x128x126 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S25x1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .smem S1x126 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== ReferenceIdeal.lean ====
abbrev S200x1024x126 : Shape := ⟨3, ![200, 1024, 126]⟩
abbrev S200x1024 : Shape := ⟨2, ![200, 1024]⟩
abbrev S1024x126 : Shape := ⟨2, ![1024, 126]⟩
abbrev S_ : Shape := ⟨0, ![]⟩
abbrev S1x126 : Shape := ⟨2, ![1, 126]⟩
abbrev S1 : Shape := ⟨1, ![1]⟩
abbrev S1x1024x126 : Shape := ⟨3, ![1, 1024, 126]⟩
abbrev S200x1024x1 : Shape := ⟨3, ![200, 1024, 1]⟩
abbrev S1x1x1 : Shape := ⟨3, ![1, 1, 1]⟩
abbrev S1024x1 : Shape := ⟨2, ![1024, 1]⟩

abbrev nBuf : Space → Nat
  | .hbm => 41
  | .vmem => 0
  | .smem => 0
  | _ => 0

abbrev bufTy : (tb : Table) → Fin (tcTables nBuf tb) → BufTy
  | .hbm, ⟨0, _⟩ => ⟨S200x1024x126, .f32⟩
  | .hbm, ⟨1, _⟩ => ⟨S200x1024, .f32⟩
  | .hbm, ⟨2, _⟩ => ⟨S1024x126, .i32⟩
  | .hbm, ⟨3, _⟩ => ⟨S_, .f32⟩
  | .hbm, ⟨4, _⟩ => ⟨S1x126, .f32⟩
  | .hbm, ⟨5, _⟩ => ⟨S1, .f32⟩
  | .hbm, ⟨6, _⟩ => ⟨S1x1024x126, .i32⟩
  | .hbm, ⟨7, _⟩ => ⟨S200x1024x126, .i32⟩
  | .hbm, ⟨8, _⟩ => ⟨S_, .i32⟩
  | .hbm, ⟨9, _⟩ => ⟨S200x1024x126, .i32⟩
  | .hbm, ⟨10, _⟩ => ⟨S200x1024x126, .i1⟩
  | .hbm, ⟨11, _⟩ => ⟨S_, .f32⟩
  | .hbm, ⟨12, _⟩ => ⟨S200x1024x126, .f32⟩
  | .hbm, ⟨13, _⟩ => ⟨S200x1024x126, .f32⟩
  | .hbm, ⟨14, _⟩ => ⟨S200x1024x126, .f32⟩
  | .hbm, ⟨15, _⟩ => ⟨S200x1024x126, .f32⟩
  | .hbm, ⟨16, _⟩ => ⟨S_, .i32⟩
  | .hbm, ⟨17, _⟩ => ⟨S200x1024x126, .i32⟩
  | .hbm, ⟨18, _⟩ => ⟨S200x1024x126, .i1⟩
  | .hbm, ⟨19, _⟩ => ⟨S200x1024x126, .f32⟩
  | .hbm, ⟨20, _⟩ => ⟨S200x1024x126, .f32⟩
  | .hbm, ⟨21, _⟩ => ⟨S200x1024x1, .f32⟩
  | .hbm, ⟨22, _⟩ => ⟨S200x1024x126, .f32⟩
  | .hbm, ⟨23, _⟩ => ⟨S_, .f32⟩
  | .hbm, ⟨24, _⟩ => ⟨S200x1024x126, .f32⟩
  | .hbm, ⟨25, _⟩ => ⟨S200x1024x126, .i1⟩
  | .hbm, ⟨26, _⟩ => ⟨S200x1024x126, .f32⟩
  | .hbm, ⟨27, _⟩ => ⟨S200x1024x126, .f32⟩
  | .hbm, ⟨28, _⟩ => ⟨S200x1024x1, .f32⟩
  | .hbm, ⟨29, _⟩ => ⟨S1x1x1, .f32⟩
  | .hbm, ⟨30, _⟩ => ⟨S200x1024x1, .f32⟩
  | .hbm, ⟨31, _⟩ => ⟨S200x1024x1, .f32⟩
  | .hbm, ⟨32, _⟩ => ⟨S200x1024x1, .f32⟩
  | .hbm, ⟨33, _⟩ => ⟨S_, .f32⟩
  | .hbm, ⟨34, _⟩ => ⟨S200x1024x1, .f32⟩
  | .hbm, ⟨35, _⟩ => ⟨S200x1024x1, .i1⟩
  | .hbm, ⟨36, _⟩ => ⟨S_, .f32⟩
  | .hbm, ⟨37, _⟩ => ⟨S200x1024x1, .f32⟩
  | .hbm, ⟨38, _⟩ => ⟨S200x1024x1, .f32⟩
  | .hbm, ⟨39, _⟩ => ⟨S_, .f32⟩
  | .hbm, ⟨40, _⟩ => ⟨S1024x1, .f32⟩
  | _, _ => ⟨S200x1024x126, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_call3_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_call4_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_call5_v0 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Proof.Compact.lean ====
/- The kernel's body in compact form: a small list of instructions (the comparator network with the
   places where a finished wire is multiplied into its accumulator) and the program that runs it. -/
module

public import Idealize.ShloMosaic.Lib.Pipeline
public import Idealize.ShloMosaic.Lib.Scf
public import Idealize.ShloMosaic.Lib.Sig
public import Idealize.ShloMosaic.PureOps

@[expose] public section

noncomputable section

namespace Cert.Compact

open Idealize.ShloMosaic Idealize.SL.Sem

abbrev S1x126 : Shape := ⟨2, ![1, 126]⟩
abbrev S1 : Shape := ⟨1, ![1]⟩
abbrev S1x8x128 : Shape := ⟨3, ![1, 8, 128]⟩
abbrev S25x1x8x128x126 : Shape := ⟨5, ![25, 1, 8, 128, 126]⟩
abbrev S25x1x8x128 : Shape := ⟨4, ![25, 1, 8, 128]⟩
abbrev S1x1x8x128x126 : Shape := ⟨5, ![1, 1, 8, 128, 126]⟩
abbrev S8x128x126 : Shape := ⟨3, ![8, 128, 126]⟩
abbrev S126x8x128 : Shape := ⟨3, ![126, 8, 128]⟩
abbrev S8x128 : Shape := ⟨2, ![8, 128]⟩
abbrev S1x1 : Shape := ⟨2, ![1, 1]⟩
abbrev S1x1x8x128 : Shape := ⟨4, ![1, 1, 8, 128]⟩

/-- One instruction of the work on one time step. -/
inductive Instr : Type
  /-- Compare-exchange: wire `i` gets the larger of wires `i`, `j`, wire `j` the smaller. -/
  | ce (i j : Nat)
  /-- Accumulator `k` starts as wire `i` times weight `i`. -/
  | put (i : Fin 126) (k : Nat)
  /-- Wire `i` times weight `i` is added to accumulator `k`. -/
  | add (i : Fin 126) (k : Nat)

open Instr in
/-- The network on 126 wires with its multiplications. -/
def net : List Instr :=
  [
    .ce 0 1, .ce 2 3, .ce 0 2, .ce 1 3, .ce 1 2, .ce 4 5, .ce 6 7, .ce 4 6, .ce 5 7, .ce 5 6, .ce 0 4, .ce 2 6,
    .ce 2 4, .ce 1 5, .ce 3 7, .ce 3 5, .ce 1 2, .ce 3 4, .ce 5 6, .ce 8 9, .ce 10 11, .ce 8 10, .ce 9 11,
    .ce 9 10, .ce 12 13, .ce 14 15, .ce 12 14, .ce 13 15, .ce 13 14, .ce 8 12, .ce 10 14, .ce 10 12, .ce 9 13,
    .ce 11 15, .ce 11 13, .ce 9 10, .ce 11 12, .ce 13 14, .ce 0 8, .ce 4 12, .ce 4 8, .ce 2 10, .ce 6 14, .ce 6 10,
    .ce 2 4, .ce 6 8, .ce 10 12, .ce 1 9, .ce 5 13, .ce 5 9, .ce 3 11, .ce 7 15, .ce 7 11, .ce 3 5, .ce 7 9,
    .ce 11 13, .ce 1 2, .ce 3 4, .ce 5 6, .ce 7 8, .ce 9 10, .ce 11 12, .ce 13 14, .ce 16 17, .ce 18 19, .ce 16 18,
    .ce 17 19, .ce 17 18, .ce 20 21, .ce 22 23, .ce 20 22, .ce 21 23, .ce 21 22, .ce 16 20, .ce 18 22, .ce 18 20,
    .ce 17 21, .ce 19 23, .ce 19 21, .ce 17 18, .ce 19 20, .ce 21 22, .ce 24 25, .ce 26 27, .ce 24 26, .ce 25 27,
    .ce 25 26, .ce 28 29, .ce 30 31, .ce 28 30, .ce 29 31, .ce 29 30, .ce 24 28, .ce 26 30, .ce 26 28, .ce 25 29,
    .ce 27 31, .ce 27 29, .ce 25 26, .ce 27 28, .ce 29 30, .ce 16 24, .ce 20 28, .ce 20 24, .ce 18 26, .ce 22 30,
    .ce 22 26, .ce 18 20, .ce 22 24, .ce 26 28, .ce 17 25, .ce 21 29, .ce 21 25, .ce 19 27, .ce 23 31, .ce 23 27,
    .ce 19 21, .ce 23 25, .ce 27 29, .ce 17 18, .ce 19 20, .ce 21 22, .ce 23 24, .ce 25 26, .ce 27 28, .ce 29 30,
    .ce 0 16, .ce 8 24, .ce 8 16, .ce 4 20, .ce 12 28, .ce 12 20, .ce 4 8, .ce 12 16, .ce 20 24, .ce 2 18,
    .ce 10 26, .ce 10 18, .ce 6 22, .ce 14 30, .ce 14 22, .ce 6 10, .ce 14 18, .ce 22 26, .ce 2 4, .ce 6 8,
    .ce 10 12, .ce 14 16, .ce 18 20, .ce 22 24, .ce 26 28, .ce 1 17, .ce 9 25, .ce 9 17, .ce 5 21, .ce 13 29,
    .ce 13 21, .ce 5 9, .ce 13 17, .ce 21 25, .ce 3 19, .ce 11 27, .ce 11 19, .ce 7 23, .ce 15 31, .ce 15 23,
    .ce 7 11, .ce 15 19, .ce 23 27, .ce 3 5, .ce 7 9, .ce 11 13, .ce 15 17, .ce 19 21, .ce 23 25, .ce 27 29,
    .ce 1 2, .ce 3 4, .ce 5 6, .ce 7 8, .ce 9 10, .ce 11 12, .ce 13 14, .ce 15 16, .ce 17 18, .ce 19 20, .ce 21 22,
    .ce 23 24, .ce 25 26, .ce 27 28, .ce 29 30, .ce 32 33, .ce 34 35, .ce 32 34, .ce 33 35, .ce 33 34, .ce 36 37,
    .ce 38 39, .ce 36 38, .ce 37 39, .ce 37 38, .ce 32 36, .ce 34 38, .ce 34 36, .ce 33 37, .ce 35 39, .ce 35 37,
    .ce 33 34, .ce 35 36, .ce 37 38, .ce 40 41, .ce 42 43, .ce 40 42, .ce 41 43, .ce 41 42, .ce 44 45, .ce 46 47,
    .ce 44 46, .ce 45 47, .ce 45 46, .ce 40 44, .ce 42 46, .ce 42 44, .ce 41 45, .ce 43 47, .ce 43 45, .ce 41 42,
    .ce 43 44, .ce 45 46, .ce 32 40, .ce 36 44, .ce 36 40, .ce 34 42, .ce 38 46, .ce 38 42, .ce 34 36, .ce 38 40,
    .ce 42 44, .ce 33 41, .ce 37 45, .ce 37 41, .ce 35 43, .ce 39 47, .ce 39 43, .ce 35 37, .ce 39 41, .ce 43 45,
    .ce 33 34, .ce 35 36, .ce 37 38, .ce 39 40, .ce 41 42, .ce 43 44, .ce 45 46, .ce 48 49, .ce 50 51, .ce 48 50,
    .ce 49 51, .ce 49 50, .ce 52 53, .ce 54 55, .ce 52 54, .ce 53 55, .ce 53 54, .ce 48 52, .ce 50 54, .ce 50 52,
    .ce 49 53, .ce 51 55, .ce 51 53, .ce 49 50, .ce 51 52, .ce 53 54, .ce 56 57, .ce 58 59, .ce 56 58, .ce 57 59,
    .ce 57 58, .ce 60 61, .ce 62 63, .ce 60 62, .ce 61 63, .ce 61 62, .ce 56 60, .ce 58 62, .ce 58 60, .ce 57 61,
    .ce 59 63, .ce 59 61, .ce 57 58, .ce 59 60, .ce 61 62, .ce 48 56, .ce 52 60, .ce 52 56, .ce 50 58, .ce 54 62,
    .ce 54 58, .ce 50 52, .ce 54 56, .ce 58 60, .ce 49 57, .ce 53 61, .ce 53 57, .ce 51 59, .ce 55 63, .ce 55 59,
    .ce 51 53, .ce 55 57, .ce 59 61, .ce 49 50, .ce 51 52, .ce 53 54, .ce 55 56, .ce 57 58, .ce 59 60, .ce 61 62,
    .ce 32 48, .ce 40 56, .ce 40 48, .ce 36 52, .ce 44 60, .ce 44 52, .ce 36 40, .ce 44 48, .ce 52 56, .ce 34 50,
    .ce 42 58, .ce 42 50, .ce 38 54, .ce 46 62, .ce 46 54, .ce 38 42, .ce 46 50, .ce 54 58, .ce 34 36, .ce 38 40,
    .ce 42 44, .ce 46 48, .ce 50 52, .ce 54 56, .ce 58 60, .ce 33 49, .ce 41 57, .ce 41 49, .ce 37 53, .ce 45 61,
    .ce 45 53, .ce 37 41, .ce 45 49, .ce 53 57, .ce 35 51, .ce 43 59, .ce 43 51, .ce 39 55, .ce 47 63, .ce 47 55,
    .ce 39 43, .ce 47 51, .ce 55 59, .ce 35 37, .ce 39 41, .ce 43 45, .ce 47 49, .ce 51 53, .ce 55 57, .ce 59 61,
    .ce 33 34, .ce 35 36, .ce 37 38, .ce 39 40, .ce 41 42, .ce 43 44, .ce 45 46, .ce 47 48, .ce 49 50, .ce 51 52,
    .ce 53 54, .ce 55 56, .ce 57 58, .ce 59 60, .ce 61 62, .ce 0 32, .ce 16 48, .ce 16 32, .ce 8 40, .ce 24 56,
    .ce 24 40, .ce 8 16, .ce 24 32, .ce 40 48, .ce 4 36, .ce 20 52, .ce 20 36, .ce 12 44, .ce 28 60, .ce 28 44,
    .ce 12 20, .ce 28 36, .ce 44 52, .ce 4 8, .ce 12 16, .ce 20 24, .ce 28 32, .ce 36 40, .ce 44 48, .ce 52 56,
    .ce 2 34, .ce 18 50, .ce 18 34, .ce 10 42, .ce 26 58, .ce 26 42, .ce 10 18, .ce 26 34, .ce 42 50, .ce 6 38,
    .ce 22 54, .ce 22 38, .ce 14 46, .ce 30 62, .ce 30 46, .ce 14 22, .ce 30 38, .ce 46 54, .ce 6 10, .ce 14 18,
    .ce 22 26, .ce 30 34, .ce 38 42, .ce 46 50, .ce 54 58, .ce 2 4, .ce 6 8, .ce 10 12, .ce 14 16, .ce 18 20,
    .ce 22 24, .ce 26 28, .ce 30 32, .ce 34 36, .ce 38 40, .ce 42 44, .ce 46 48, .ce 50 52, .ce 54 56, .ce 58 60,
    .ce 1 33, .ce 17 49, .ce 17 33, .ce 9 41, .ce 25 57, .ce 25 41, .ce 9 17, .ce 25 33, .ce 41 49, .ce 5 37,
    .ce 21 53, .ce 21 37, .ce 13 45, .ce 29 61, .ce 29 45, .ce 13 21, .ce 29 37, .ce 45 53, .ce 5 9, .ce 13 17,
    .ce 21 25, .ce 29 33, .ce 37 41, .ce 45 49, .ce 53 57, .ce 3 35, .ce 19 51, .ce 19 35, .ce 11 43, .ce 27 59,
    .ce 27 43, .ce 11 19, .ce 27 35, .ce 43 51, .ce 7 39, .ce 23 55, .ce 23 39, .ce 15 47, .ce 31 63, .ce 31 47,
    .ce 15 23, .ce 31 39, .ce 47 55, .ce 7 11, .ce 15 19, .ce 23 27, .ce 31 35, .ce 39 43, .ce 47 51, .ce 55 59,
    .ce 3 5, .ce 7 9, .ce 11 13, .ce 15 17, .ce 19 21, .ce 23 25, .ce 27 29, .ce 31 33, .ce 35 37, .ce 39 41,
    .ce 43 45, .ce 47 49, .ce 51 53, .ce 55 57, .ce 59 61, .ce 1 2, .ce 3 4, .ce 5 6, .ce 7 8, .ce 9 10, .ce 11 12,
    .ce 13 14, .ce 15 16, .ce 17 18, .ce 19 20, .ce 21 22, .ce 23 24, .ce 25 26, .ce 27 28, .ce 29 30, .ce 31 32,
    .ce 33 34, .ce 35 36, .ce 37 38, .ce 39 40, .ce 41 42, .ce 43 44, .ce 45 46, .ce 47 48, .ce 49 50, .ce 51 52,
    .ce 53 54, .ce 55 56, .ce 57 58, .ce 59 60, .ce 61 62, .ce 64 65, .ce 66 67, .ce 64 66, .ce 65 67, .ce 65 66,
    .ce 68 69, .ce 70 71, .ce 68 70, .ce 69 71, .ce 69 70, .ce 64 68, .ce 66 70, .ce 66 68, .ce 65 69, .ce 67 71,
    .ce 67 69, .ce 65 66, .ce 67 68, .ce 69 70, .ce 72 73, .ce 74 75, .ce 72 74, .ce 73 75, .ce 73 74, .ce 76 77,
    .ce 78 79, .ce 76 78, .ce 77 79, .ce 77 78, .ce 72 76, .ce 74 78, .ce 74 76, .ce 73 77, .ce 75 79, .ce 75 77,
    .ce 73 74, .ce 75 76, .ce 77 78, .ce 64 72, .ce 68 76, .ce 68 72, .ce 66 74, .ce 70 78, .ce 70 74, .ce 66 68,
    .ce 70 72, .ce 74 76, .ce 65 73, .ce 69 77, .ce 69 73, .ce 67 75, .ce 71 79, .ce 71 75, .ce 67 69, .ce 71 73,
    .ce 75 77, .ce 65 66, .ce 67 68, .ce 69 70, .ce 71 72, .ce 73 74, .ce 75 76, .ce 77 78, .ce 80 81, .ce 82 83,
    .ce 80 82, .ce 81 83, .ce 81 82, .ce 84 85, .ce 86 87, .ce 84 86, .ce 85 87, .ce 85 86, .ce 80 84, .ce 82 86,
    .ce 82 84, .ce 81 85, .ce 83 87, .ce 83 85, .ce 81 82, .ce 83 84, .ce 85 86, .ce 88 89, .ce 90 91, .ce 88 90,
    .ce 89 91, .ce 89 90, .ce 92 93, .ce 94 95, .ce 92 94, .ce 93 95, .ce 93 94, .ce 88 92, .ce 90 94, .ce 90 92,
    .ce 89 93, .ce 91 95, .ce 91 93, .ce 89 90, .ce 91 92, .ce 93 94, .ce 80 88, .ce 84 92, .ce 84 88, .ce 82 90,
    .ce 86 94, .ce 86 90, .ce 82 84, .ce 86 88, .ce 90 92, .ce 81 89, .ce 85 93, .ce 85 89, .ce 83 91, .ce 87 95,
    .ce 87 91, .ce 83 85, .ce 87 89, .ce 91 93, .ce 81 82, .ce 83 84, .ce 85 86, .ce 87 88, .ce 89 90, .ce 91 92,
    .ce 93 94, .ce 64 80, .ce 72 88, .ce 72 80, .ce 68 84, .ce 76 92, .ce 76 84, .ce 68 72, .ce 76 80, .ce 84 88,
    .ce 66 82, .ce 74 90, .ce 74 82, .ce 70 86, .ce 78 94, .ce 78 86, .ce 70 74, .ce 78 82, .ce 86 90, .ce 66 68,
    .ce 70 72, .ce 74 76, .ce 78 80, .ce 82 84, .ce 86 88, .ce 90 92, .ce 65 81, .ce 73 89, .ce 73 81, .ce 69 85,
    .ce 77 93, .ce 77 85, .ce 69 73, .ce 77 81, .ce 85 89, .ce 67 83, .ce 75 91, .ce 75 83, .ce 71 87, .ce 79 95,
    .ce 79 87, .ce 71 75, .ce 79 83, .ce 87 91, .ce 67 69, .ce 71 73, .ce 75 77, .ce 79 81, .ce 83 85, .ce 87 89,
    .ce 91 93, .ce 65 66, .ce 67 68, .ce 69 70, .ce 71 72, .ce 73 74, .ce 75 76, .ce 77 78, .ce 79 80, .ce 81 82,
    .ce 83 84, .ce 85 86, .ce 87 88, .ce 89 90, .ce 91 92, .ce 93 94, .ce 96 97, .ce 98 99, .ce 96 98, .ce 97 99,
    .ce 97 98, .ce 100 101, .ce 102 103, .ce 100 102, .ce 101 103, .ce 101 102, .ce 96 100, .ce 98 102, .ce 98 100,
    .ce 97 101, .ce 99 103, .ce 99 101, .ce 97 98, .ce 99 100, .ce 101 102, .ce 104 105, .ce 106 107, .ce 104 106,
    .ce 105 107, .ce 105 106, .ce 108 109, .ce 110 111, .ce 108 110, .ce 109 111, .ce 109 110, .ce 104 108,
    .ce 106 110, .ce 106 108, .ce 105 109, .ce 107 111, .ce 107 109, .ce 105 106, .ce 107 108, .ce 109 110,
    .ce 96 104, .ce 100 108, .ce 100 104, .ce 98 106, .ce 102 110, .ce 102 106, .ce 98 100, .ce 102 104,
    .ce 106 108, .ce 97 105, .ce 101 109, .ce 101 105, .ce 99 107, .ce 103 111, .ce 103 107, .ce 99 101,
    .ce 103 105, .ce 107 109, .ce 97 98, .ce 99 100, .ce 101 102, .ce 103 104, .ce 105 106, .ce 107 108,
    .ce 109 110, .ce 112 113, .ce 114 115, .ce 112 114, .ce 113 115, .ce 113 114, .ce 116 117, .ce 118 119,
    .ce 116 118, .ce 117 119, .ce 117 118, .ce 112 116, .ce 114 118, .ce 114 116, .ce 113 117, .ce 115 119,
    .ce 115 117, .ce 113 114, .ce 115 116, .ce 117 118, .ce 120 121, .ce 122 123, .ce 120 122, .ce 121 123,
    .ce 121 122, .ce 124 125, .ce 120 124, .ce 122 124, .ce 121 125, .ce 123 125, .ce 121 122, .ce 123 124,
    .ce 112 120, .ce 116 124, .ce 116 120, .ce 114 122, .ce 118 122, .ce 114 116, .ce 118 120, .ce 122 124,
    .ce 113 121, .ce 117 125, .ce 117 121, .ce 115 123, .ce 119 123, .ce 115 117, .ce 119 121, .ce 123 125,
    .ce 113 114, .ce 115 116, .ce 117 118, .ce 119 120, .ce 121 122, .ce 123 124, .ce 96 112, .ce 104 120,
    .ce 104 112, .ce 100 116, .ce 108 124, .ce 108 116, .ce 100 104, .ce 108 112, .ce 116 120, .ce 98 114,
    .ce 106 122, .ce 106 114, .ce 102 118, .ce 110 118, .ce 102 106, .ce 110 114, .ce 118 122, .ce 98 100,
    .ce 102 104, .ce 106 108, .ce 110 112, .ce 114 116, .ce 118 120, .ce 122 124, .ce 97 113, .ce 105 121,
    .ce 105 113, .ce 101 117, .ce 109 125, .ce 109 117, .ce 101 105, .ce 109 113, .ce 117 121, .ce 99 115,
    .ce 107 123, .ce 107 115, .ce 103 119, .ce 111 119, .ce 103 107, .ce 111 115, .ce 119 123, .ce 99 101,
    .ce 103 105, .ce 107 109, .ce 111 113, .ce 115 117, .ce 119 121, .ce 123 125, .ce 97 98, .ce 99 100,
    .ce 101 102, .ce 103 104, .ce 105 106, .ce 107 108, .ce 109 110, .ce 111 112, .ce 113 114, .ce 115 116,
    .ce 117 118, .ce 119 120, .ce 121 122, .ce 123 124, .ce 64 96, .ce 80 112, .ce 80 96, .ce 72 104, .ce 88 120,
    .ce 88 104, .ce 72 80, .ce 88 96, .ce 104 112, .ce 68 100, .ce 84 116, .ce 84 100, .ce 76 108, .ce 92 124,
    .ce 92 108, .ce 76 84, .ce 92 100, .ce 108 116, .ce 68 72, .ce 76 80, .ce 84 88, .ce 92 96, .ce 100 104,
    .ce 108 112, .ce 116 120, .ce 66 98, .ce 82 114, .ce 82 98, .ce 74 106, .ce 90 122, .ce 90 106, .ce 74 82,
    .ce 90 98, .ce 106 114, .ce 70 102, .ce 86 118, .ce 86 102, .ce 78 110, .ce 94 110, .ce 78 86, .ce 94 102,
    .ce 110 118, .ce 70 74, .ce 78 82, .ce 86 90, .ce 94 98, .ce 102 106, .ce 110 114, .ce 118 122, .ce 66 68,
    .ce 70 72, .ce 74 76, .ce 78 80, .ce 82 84, .ce 86 88, .ce 90 92, .ce 94 96, .ce 98 100, .ce 102 104,
    .ce 106 108, .ce 110 112, .ce 114 116, .ce 118 120, .ce 122 124, .ce 65 97, .ce 81 113, .ce 81 97, .ce 73 105,
    .ce 89 121, .ce 89 105, .ce 73 81, .ce 89 97, .ce 105 113, .ce 69 101, .ce 85 117, .ce 85 101, .ce 77 109,
    .ce 93 125, .ce 93 109, .ce 77 85, .ce 93 101, .ce 109 117, .ce 69 73, .ce 77 81, .ce 85 89, .ce 93 97,
    .ce 101 105, .ce 109 113, .ce 117 121, .ce 67 99, .ce 83 115, .ce 83 99, .ce 75 107, .ce 91 123, .ce 91 107,
    .ce 75 83, .ce 91 99, .ce 107 115, .ce 71 103, .ce 87 119, .ce 87 103, .ce 79 111, .ce 95 111, .ce 79 87,
    .ce 95 103, .ce 111 119, .ce 71 75, .ce 79 83, .ce 87 91, .ce 95 99, .ce 103 107, .ce 111 115, .ce 119 123,
    .ce 67 69, .ce 71 73, .ce 75 77, .ce 79 81, .ce 83 85, .ce 87 89, .ce 91 93, .ce 95 97, .ce 99 101,
    .ce 103 105, .ce 107 109, .ce 111 113, .ce 115 117, .ce 119 121, .ce 123 125, .ce 65 66, .ce 67 68, .ce 69 70,
    .ce 71 72, .ce 73 74, .ce 75 76, .ce 77 78, .ce 79 80, .ce 81 82, .ce 83 84, .ce 85 86, .ce 87 88, .ce 89 90,
    .ce 91 92, .ce 93 94, .ce 95 96, .ce 97 98, .ce 99 100, .ce 101 102, .ce 103 104, .ce 105 106, .ce 107 108,
    .ce 109 110, .ce 111 112, .ce 113 114, .ce 115 116, .ce 117 118, .ce 119 120, .ce 121 122, .ce 123 124,
    .ce 0 64, .put 0 0, .ce 32 96, .ce 32 64, .ce 16 80, .ce 48 112, .ce 48 80, .ce 16 32, .ce 48 64, .ce 80 96,
    .ce 8 72, .ce 40 104, .ce 40 72, .ce 24 88, .ce 56 120, .ce 56 88, .ce 24 40, .ce 56 72, .ce 88 104, .ce 8 16,
    .ce 24 32, .ce 40 48, .ce 56 64, .ce 72 80, .ce 88 96, .ce 104 112, .ce 4 68, .ce 36 100, .ce 36 68, .ce 20 84,
    .ce 52 116, .ce 52 84, .ce 20 36, .ce 52 68, .ce 84 100, .ce 12 76, .ce 44 108, .ce 44 76, .ce 28 92,
    .ce 60 124, .ce 60 92, .ce 28 44, .ce 60 76, .ce 92 108, .ce 12 20, .ce 28 36, .ce 44 52, .ce 60 68, .ce 76 84,
    .ce 92 100, .ce 108 116, .ce 4 8, .ce 12 16, .ce 20 24, .ce 28 32, .ce 36 40, .ce 44 48, .ce 52 56, .ce 60 64,
    .ce 68 72, .ce 76 80, .ce 84 88, .ce 92 96, .ce 100 104, .ce 108 112, .ce 116 120, .ce 2 66, .ce 34 98,
    .ce 34 66, .ce 18 82, .ce 50 114, .ce 50 82, .ce 18 34, .ce 50 66, .ce 82 98, .ce 10 74, .ce 42 106, .ce 42 74,
    .ce 26 90, .ce 58 122, .ce 58 90, .ce 26 42, .ce 58 74, .ce 90 106, .ce 10 18, .ce 26 34, .ce 42 50, .ce 58 66,
    .ce 74 82, .ce 90 98, .ce 106 114, .ce 6 70, .ce 38 102, .ce 38 70, .ce 22 86, .ce 54 118, .ce 54 86,
    .ce 22 38, .ce 54 70, .ce 86 102, .ce 14 78, .ce 46 110, .ce 46 78, .ce 30 94, .ce 62 94, .ce 30 46, .ce 62 78,
    .ce 94 110, .ce 14 22, .ce 30 38, .ce 46 54, .ce 62 70, .ce 78 86, .ce 94 102, .ce 110 118, .ce 6 10,
    .ce 14 18, .ce 22 26, .ce 30 34, .ce 38 42, .ce 46 50, .ce 54 58, .ce 62 66, .ce 70 74, .ce 78 82, .ce 86 90,
    .ce 94 98, .ce 102 106, .ce 110 114, .ce 118 122, .ce 2 4, .ce 6 8, .ce 10 12, .ce 14 16, .ce 18 20, .ce 22 24,
    .ce 26 28, .ce 30 32, .ce 34 36, .ce 38 40, .ce 42 44, .ce 46 48, .ce 50 52, .ce 54 56, .ce 58 60, .ce 62 64,
    .ce 66 68, .ce 70 72, .ce 74 76, .ce 78 80, .ce 82 84, .ce 86 88, .ce 90 92, .ce 94 96, .ce 98 100,
    .ce 102 104, .ce 106 108, .ce 110 112, .ce 114 116, .ce 118 120, .ce 122 124, .ce 1 65, .ce 33 97, .ce 33 65,
    .ce 17 81, .ce 49 113, .ce 49 81, .ce 17 33, .ce 49 65, .ce 81 97, .ce 9 73, .ce 41 105, .ce 41 73, .ce 25 89,
    .ce 57 121, .ce 57 89, .ce 25 41, .ce 57 73, .ce 89 105, .ce 9 17, .ce 25 33, .ce 41 49, .ce 57 65, .ce 73 81,
    .ce 89 97, .ce 105 113, .ce 5 69, .ce 37 101, .ce 37 69, .ce 21 85, .ce 53 117, .ce 53 85, .ce 21 37,
    .ce 53 69, .ce 85 101, .ce 13 77, .ce 45 109, .ce 45 77, .ce 29 93, .ce 61 125, .ce 61 93, .ce 29 45,
    .ce 61 77, .ce 93 109, .ce 13 21, .ce 29 37, .ce 45 53, .ce 61 69, .ce 77 85, .ce 93 101, .ce 109 117, .ce 5 9,
    .ce 13 17, .ce 21 25, .ce 29 33, .ce 37 41, .ce 45 49, .ce 53 57, .ce 61 65, .ce 69 73, .ce 77 81, .ce 85 89,
    .ce 93 97, .ce 101 105, .ce 109 113, .ce 117 121, .ce 3 67, .ce 35 99, .ce 35 67, .ce 19 83, .ce 51 115,
    .ce 51 83, .ce 19 35, .ce 51 67, .ce 83 99, .ce 11 75, .ce 43 107, .ce 43 75, .ce 27 91, .ce 59 123, .ce 59 91,
    .ce 27 43, .ce 59 75, .ce 91 107, .ce 11 19, .ce 27 35, .ce 43 51, .ce 59 67, .ce 75 83, .ce 91 99,
    .ce 107 115, .ce 7 71, .ce 39 103, .ce 39 71, .ce 23 87, .ce 55 119, .ce 55 87, .ce 23 39, .ce 55 71,
    .ce 87 103, .ce 15 79, .ce 47 111, .ce 47 79, .ce 31 95, .ce 63 95, .ce 31 47, .ce 63 79, .ce 95 111,
    .ce 15 23, .ce 31 39, .ce 47 55, .ce 63 71, .ce 79 87, .ce 95 103, .ce 111 119, .ce 7 11, .ce 15 19, .ce 23 27,
    .ce 31 35, .ce 39 43, .ce 47 51, .ce 55 59, .ce 63 67, .ce 71 75, .ce 79 83, .ce 87 91, .ce 95 99, .ce 103 107,
    .ce 111 115, .ce 119 123, .ce 3 5, .ce 7 9, .ce 11 13, .ce 15 17, .ce 19 21, .ce 23 25, .ce 27 29, .ce 31 33,
    .ce 35 37, .ce 39 41, .ce 43 45, .ce 47 49, .ce 51 53, .ce 55 57, .ce 59 61, .ce 63 65, .ce 67 69, .ce 71 73,
    .ce 75 77, .ce 79 81, .ce 83 85, .ce 87 89, .ce 91 93, .ce 95 97, .ce 99 101, .ce 103 105, .ce 107 109,
    .ce 111 113, .ce 115 117, .ce 119 121, .ce 123 125, .put 125 5, .ce 1 2, .put 1 1, .put 2 2, .ce 3 4, .put 3 3,
    .put 4 4, .ce 5 6, .add 5 5, .put 6 6, .ce 7 8, .put 7 7, .add 8 0, .ce 9 10, .add 9 1, .add 10 2, .ce 11 12,
    .add 11 3, .add 12 4, .ce 13 14, .add 13 5, .add 14 6, .ce 15 16, .add 15 7, .add 16 0, .ce 17 18, .add 17 1,
    .add 18 2, .ce 19 20, .add 19 3, .add 20 4, .ce 21 22, .add 21 5, .add 22 6, .ce 23 24, .add 23 7, .add 24 0,
    .ce 25 26, .add 25 1, .add 26 2, .ce 27 28, .add 27 3, .add 28 4, .ce 29 30, .add 29 5, .add 30 6, .ce 31 32,
    .add 31 7, .add 32 0, .ce 33 34, .add 33 1, .add 34 2, .ce 35 36, .add 35 3, .add 36 4, .ce 37 38, .add 37 5,
    .add 38 6, .ce 39 40, .add 39 7, .add 40 0, .ce 41 42, .add 41 1, .add 42 2, .ce 43 44, .add 43 3, .add 44 4,
    .ce 45 46, .add 45 5, .add 46 6, .ce 47 48, .add 47 7, .add 48 0, .ce 49 50, .add 49 1, .add 50 2, .ce 51 52,
    .add 51 3, .add 52 4, .ce 53 54, .add 53 5, .add 54 6, .ce 55 56, .add 55 7, .add 56 0, .ce 57 58, .add 57 1,
    .add 58 2, .ce 59 60, .add 59 3, .add 60 4, .ce 61 62, .add 61 5, .add 62 6, .ce 63 64, .add 63 7, .add 64 0,
    .ce 65 66, .add 65 1, .add 66 2, .ce 67 68, .add 67 3, .add 68 4, .ce 69 70, .add 69 5, .add 70 6, .ce 71 72,
    .add 71 7, .add 72 0, .ce 73 74, .add 73 1, .add 74 2, .ce 75 76, .add 75 3, .add 76 4, .ce 77 78, .add 77 5,
    .add 78 6, .ce 79 80, .add 79 7, .add 80 0, .ce 81 82, .add 81 1, .add 82 2, .ce 83 84, .add 83 3, .add 84 4,
    .ce 85 86, .add 85 5, .add 86 6, .ce 87 88, .add 87 7, .add 88 0, .ce 89 90, .add 89 1, .add 90 2, .ce 91 92,
    .add 91 3, .add 92 4, .ce 93 94, .add 93 5, .add 94 6, .ce 95 96, .add 95 7, .add 96 0, .ce 97 98, .add 97 1,
    .add 98 2, .ce 99 100, .add 99 3, .add 100 4, .ce 101 102, .add 101 5, .add 102 6, .ce 103 104, .add 103 7,
    .add 104 0, .ce 105 106, .add 105 1, .add 106 2, .ce 107 108, .add 107 3, .add 108 4, .ce 109 110, .add 109 5,
    .add 110 6, .ce 111 112, .add 111 7, .add 112 0, .ce 113 114, .add 113 1, .add 114 2, .ce 115 116, .add 115 3,
    .add 116 4, .ce 117 118, .add 117 5, .add 118 6, .ce 119 120, .add 119 7, .add 120 0, .ce 121 122, .add 121 1,
    .add 122 2, .ce 123 124, .add 123 3, .add 124 4
  ]

/-- A complete binary tree of depth `n`, the register file. -/
def Tree (α : Type) : Nat → Type
  | 0 => α
  | n + 1 => Tree α n × Tree α n

/-- Read register `i` (least significant bit first) and continue. -/
def Tree.get {α : Type} {R : Type 1} : (n : Nat) → Tree α n → Nat → (α → R) → R
  | 0, a, _, k => k a
  | n + 1, t, i, k => Nat.casesOn (motive := fun _ => R) (Nat.mod i 2) (Tree.get n t.1 (Nat.div i 2) k)
      (fun _ => Tree.get n t.2 (Nat.div i 2) k)

/-- Write register `i` and continue with the new tree. -/
def Tree.set {α : Type} {R : Type 1} : (n : Nat) → Tree α n → Nat → α → (Tree α n → R) → R
  | 0, _, _, a, k => k a
  | n + 1, t, i, a, k => Prod.casesOn (motive := fun _ => R) t fun l r =>
      Nat.casesOn (motive := fun _ => R) (Nat.mod i 2) (Tree.set n l (Nat.div i 2) a fun l' => k (l', r))
        (fun _ => Tree.set n r (Nat.div i 2) a fun r' => k (l, r'))

/-- The tree with the same value everywhere. -/
def Tree.const {α : Type} (a : α) : (n : Nat) → Tree α n
  | 0 => a
  | n + 1 => (Tree.const a n, Tree.const a n)

variable {F : FTy → Type} [FloatOps F]
variable {nD : Nat} {τ : Topo} {sig : RefSig} {Λ : Labels}

/-- A time step of scores is not empty. -/
theorem h_x : 0 < S1x1x8x128x126.numel := by decide
/-- A time step of masks is not empty. -/
theorem h_m : 0 < S1x1x8x128.numel := by decide
/-- The output block is not empty. -/
theorem h_o : 0 < S1x8x128.numel := by decide
/-- A time step of scores without its leading unit axes. -/
theorem sc_x : S1x1x8x128x126.ShapeCasts S8x128x126 := by decide
/-- The wires come first after the transpose. -/
theorem tr_x : S8x128x126.Transposes [2, 0, 1] S126x8x128 := by decide
/-- A wire without its unit axis. -/
theorem sc_w : S1x8x128.ShapeCasts S8x128 := by decide
/-- A row-by-lane array as the output block. -/
theorem sc_o : S8x128.ShapeCasts S1x8x128 := by decide
/-- A time step of masks without its unit axes. -/
theorem sc_m : S1x1x8x128.ShapeCasts S8x128 := by decide
/-- One weight is one number. -/
theorem n_w : S1x1.numel = 1 := by decide
/-- The bias is one number. -/
theorem n_b : S1.numel = 1 := by decide
/-- Time step `t` lies in the block of scores. -/
theorem in_x (t : Fin 25) : ∀ a, (![t.val, 0, 0, 0, 0] : Fin 5 → Nat) a + S1x1x8x128x126.size a ≤ S25x1x8x128x126.size a := by
  have := t.isLt
  intro a; fin_cases a <;> simp <;> omega
/-- Time step `t` lies in the block of masks. -/
theorem in_m (t : Fin 25) : ∀ a, (![t.val, 0, 0, 0] : Fin 4 → Nat) a + S1x1x8x128.size a ≤ S25x1x8x128.size a := by
  have := t.isLt
  intro a; fin_cases a <;> simp <;> omega
/-- Weight `i` lies in the weights. -/
theorem in_w (i : Fin 126) : ∀ a, (![0, i.val] : Fin 2 → Nat) a + S1x1.size a ≤ S1x126.size a := by
  have := i.isLt
  intro a; fin_cases a <;> simp <;> omega
/-- The bias lies in its block. -/
theorem in_b : ∀ a, (![0] : Fin 1 → Nat) a + S1.size a ≤ S1.size a := by decide
/-- The output block lies in itself. -/
theorem in_o : ∀ a, (![0, 0, 0] : Fin 3 → Nat) a + S1x8x128.size a ≤ S1x8x128.size a := by decide
/-- Wire `i` is a slice of the transposed block. -/
theorem sl_x (i : Fin 126) : S126x8x128.Slices ![i.val, 0, 0] S1x8x128 := by
  have := i.isLt
  refine ⟨rfl, ?_⟩
  intro a; fin_cases a <;> simp <;> omega

/-- Wire `i` of a time step, from the transposed block. -/
abbrev wire (x : FVec F S126x8x128 .f32) (i : Fin 126) : FVec F S8x128 .f32 :=
  shapeCast S8x128 (extractStridedSlice S1x8x128 ![i.val, 0, 0] x (sl_x i)) sc_w

/-- Fill the registers with the wires of the list. -/
def fill {R : Type 1} (x : FVec F S126x8x128 .f32) (l : List (Fin 126)) :
    Tree (FVec F S8x128 .f32) 8 → (Tree (FVec F S8x128 .f32) 8 → R) → R :=
  List.rec (motive := fun _ => Tree (FVec F S8x128 .f32) 8 → (Tree (FVec F S8x128 .f32) 8 → R) → R)
    (fun st k => k st)
    (fun i _ ih st k => Tree.set 8 st i.val (wire x i) fun st' => ih st' k) l

/-- Load weight `i` and continue with it. -/
abbrev loadW (arg4 : Memref sig .tc .smem S1x126 .f32) (i : Fin 126)
    (k : F .f32 → Prog (TpuEff nD τ sig (Elt F) Λ .tc) PUnit) : Prog (TpuEff nD τ sig (Elt F) Λ .tc) PUnit :=
  smemLoadElt (p := .tc) arg4 (Rect.unit (s := S1x126) ![0, i.val] S1x1.size (in_w i)) (View.loads_smem_one rfl n_w) (Shape.Idx.first (n_w.symm ▸ Nat.one_pos)) k

/-- Run the instructions. -/
def runNet (arg4 : Memref sig .tc .smem S1x126 .f32) (l : List Instr) :
    Tree (FVec F S8x128 .f32) 8 → (Tree (FVec F S8x128 .f32) 8 → Prog (TpuEff nD τ sig (Elt F) Λ .tc) PUnit) →
      Prog (TpuEff nD τ sig (Elt F) Λ .tc) PUnit :=
  List.rec (motive := fun _ => Tree (FVec F S8x128 .f32) 8 →
      (Tree (FVec F S8x128 .f32) 8 → Prog (TpuEff nD τ sig (Elt F) Λ .tc) PUnit) →
      Prog (TpuEff nD τ sig (Elt F) Λ .tc) PUnit)
    (fun st k => k st)
    (fun ins _ ih st k => Instr.casesOn (motive := fun _ => Prog (TpuEff nD τ sig (Elt F) Λ .tc) PUnit) ins
      (fun i j => Tree.get 8 st i fun a => Tree.get 8 st j fun b =>
        Tree.set 8 st i (maximumf a b) fun st1 => Tree.set 8 st1 j (minimumf a b) fun st2 => ih st2 k)
      (fun i c => Tree.get 8 st i.val fun a => loadW arg4 i fun w =>
        Tree.set 8 st (Nat.add 128 c) (mulf a (broadcast S8x128 w)) fun st1 => ih st1 k)
      (fun i c => Tree.get 8 st i.val fun a => loadW arg4 i fun w => Tree.get 8 st (Nat.add 128 c) fun s =>
        Tree.set 8 st (Nat.add 128 c) (addf s (mulf a (broadcast S8x128 w))) fun st1 => ih st1 k)) l

/-- All wires, in order. -/
def wires : List (Fin 126) := List.finRange 126

/-- The work on time step `t`: load its block, run the network, add the accumulators and the bias,
    put the large constant where the mask is zero. -/
def oneT (arg2 : Memref sig .tc .vmem S25x1x8x128x126 .f32) (arg3 : Memref sig .tc .vmem S25x1x8x128 .f32)
    (arg4 : Memref sig .tc .smem S1x126 .f32) (arg5 : Memref sig .tc .smem S1 .f32) (t : Fin 25)
    (k : FVec F S8x128 .f32 → Prog (TpuEff nD τ sig (Elt F) Λ .tc) PUnit) : Prog (TpuEff nD τ sig (Elt F) Λ .tc) PUnit :=
  .op (.load arg2 (Rect.unit (s := S25x1x8x128x126) ![t.val, 0, 0, 0, 0] S1x1x8x128x126.size (in_x t)).toLoadRect (View.loadsAt_vmem h_x)) fun v =>
  fill (transpose S126x8x128 [2, 0, 1] (shapeCast S8x128x126 v sc_x) tr_x) wires
    (Tree.const (broadcast S8x128 (Scalar.ofBits .f32 0x00000000#32)) 8) fun st =>
  runNet arg4 net st fun st =>
  Tree.get 8 st 128 fun a0 => Tree.get 8 st 129 fun a1 => Tree.get 8 st 130 fun a2 => Tree.get 8 st 131 fun a3 =>
  Tree.get 8 st 132 fun a4 => Tree.get 8 st 133 fun a5 => Tree.get 8 st 134 fun a6 => Tree.get 8 st 135 fun a7 =>
  smemLoadElt (p := .tc) arg5 (Rect.unit (s := S1) ![0] S1.size in_b) (View.loads_smem_one rfl n_b) (Shape.Idx.first (n_b.symm ▸ Nat.one_pos)) fun b =>
  .op (.load arg3 (Rect.unit (s := S25x1x8x128) ![t.val, 0, 0, 0] S1x1x8x128.size (in_m t)).toLoadRect (View.loadsAt_vmem h_m)) fun m =>
  k (select (cmpf .oeq (shapeCast S8x128 m sc_m) (broadcast S8x128 (Scalar.ofBits .f32 0x00000000#32)))
    (broadcast S8x128 (Scalar.ofBits .f32 0x49742400#32))
    (addf (addf (addf (addf (addf (addf (addf (addf a0 a1) a2) a3) a4) a5) a6) a7) (broadcast S8x128 b)))

/-- The remaining time steps, the minimum so far carried along. -/
def restT (arg2 : Memref sig .tc .vmem S25x1x8x128x126 .f32) (arg3 : Memref sig .tc .vmem S25x1x8x128 .f32)
    (arg4 : Memref sig .tc .smem S1x126 .f32) (arg5 : Memref sig .tc .smem S1 .f32) (l : List (Fin 25)) :
    FVec F S8x128 .f32 → (FVec F S8x128 .f32 → Prog (TpuEff nD τ sig (Elt F) Λ .tc) PUnit) →
      Prog (TpuEff nD τ sig (Elt F) Λ .tc) PUnit :=
  List.rec (motive := fun _ => FVec F S8x128 .f32 → (FVec F S8x128 .f32 → Prog (TpuEff nD τ sig (Elt F) Λ .tc) PUnit) →
      Prog (TpuEff nD τ sig (Elt F) Λ .tc) PUnit)
    (fun r k => k r)
    (fun t _ ih r k => oneT arg2 arg3 arg4 arg5 t fun v => ih (minimumf r v) k) l

/-- The last step: the block's minimum is stored at the first grid point and combined with the
    output's contents at the others. -/
def tail (arg6 : Memref sig .tc .vmem S1x8x128 .f32) (c1 c2 : BitVec 1) (res : FVec F S8x128 .f32) :
    Prog (TpuEff nD τ sig (Elt F) Λ .tc) PUnit := do
  if _h1 : c1 = 1#1 then do
    let _v : Vec F S1x8x128 .f32 ← Prog.lift (.load arg6 (Rect.unit (s := S1x8x128) ![0, 0, 0] S1x8x128.size in_o).toLoadRect (View.loadsAt_vmem h_o))
    Prog.lift (.store arg6 (Rect.unit (s := S1x8x128) ![0, 0, 0] S1x8x128.size in_o) (shapeCast S1x8x128 res sc_o) Finset.univ (View.stores_vmem_bits_univ h_o rfl) (.inl rfl))
    pure ⟨⟩
  else do
    pure ⟨⟩
  if _h2 : c2 = 1#1 then do
    let v : Vec F S1x8x128 .f32 ← Prog.lift (.load arg6 (Rect.unit (s := S1x8x128) ![0, 0, 0] S1x8x128.size in_o).toLoadRect (View.loadsAt_vmem h_o))
    let _v' : Vec F S1x8x128 .f32 ← Prog.lift (.load arg6 (Rect.unit (s := S1x8x128) ![0, 0, 0] S1x8x128.size in_o).toLoadRect (View.loadsAt_vmem h_o))
    Prog.lift (.store arg6 (Rect.unit (s := S1x8x128) ![0, 0, 0] S1x8x128.size in_o) (shapeCast S1x8x128 (minimumf (shapeCast S8x128 v sc_w) res) sc_o) Finset.univ (View.stores_vmem_bits_univ h_o rfl) (.inl rfl))
    pure ⟨⟩
  else do
    pure ⟨⟩
  pure ⟨⟩

/-- Time steps 1 to 24. -/
def laterSteps : List (Fin 25) :=
  [1, 2, 3, 4, 5, 6, 7, 8, 9, 10, 11, 12, 13, 14, 15, 16, 17, 18, 19, 20, 21, 22, 23, 24]

/-- The whole body. -/
def body (arg2 : Memref sig .tc .vmem S25x1x8x128x126 .f32) (arg3 : Memref sig .tc .vmem S25x1x8x128 .f32)
    (arg4 : Memref sig .tc .smem S1x126 .f32) (arg5 : Memref sig .tc .smem S1 .f32)
    (arg6 : Memref sig .tc .vmem S1x8x128 .f32) (c1 c2 : BitVec 1) : Prog (TpuEff nD τ sig (Elt F) Λ .tc) PUnit :=
  oneT arg2 arg3 arg4 arg5 0 fun r => restT arg2 arg3 arg4 arg5 laterSteps r fun r => tail arg6 c1 c2 r

end Cert.Compact

end
-- ==== Proof.BodyBits.lean ====
/- The printed body of the idealized program is the compact one. -/
module

public import proofs.«01_k».proof.Kernel
public import proofs.«01_k».proof.Proof.Compact
public import Idealize.ShloMosaic.Lib.Pipeline.Regions

@[expose] public section

noncomputable section

namespace Cert.Kernel.Body

open Idealize.ShloMosaic Idealize.SL.Sem

variable {F : FTy → Type} [FloatOps F] [Facts]

/-- The part the printed body consists of is the compact body. -/
theorem part_eq (i : grid0.Coords) (arg2 : Memref sig .tc .vmem S25x1x8x128x126 .f32) (harg2 : arg2.IsWhole) (arg3 : Memref sig .tc .vmem S25x1x8x128 .f32) (harg3 : arg3.IsWhole) (arg4 : Memref sig .tc .smem S1x126 .f32) (harg4 : arg4.IsWhole) (arg5 : Memref sig .tc .smem S1 .f32) (harg5 : arg5.IsWhole) (arg6 : Memref sig .tc .vmem S1x8x128 .f32) (harg6 : arg6.IsWhole) :
    k0_part1668 (F := F) i arg2 harg2 arg3 harg3 arg4 harg4 arg5 harg5 arg6 harg6 =
      Compact.body (nD := nD) (τ := τ) (Λ := Λ₀) arg2 arg3 arg4 arg5 arg6 (k0_cond1 i) (k0_cond2 i) := by
  chain_rfl

/-- The printed body is the compact body. -/
theorem body_eq (i : grid0.Coords) (arg2 : Memref sig .tc .vmem S25x1x8x128x126 .f32) (harg2 : arg2.IsWhole) (arg3 : Memref sig .tc .vmem S25x1x8x128 .f32) (harg3 : arg3.IsWhole) (arg4 : Memref sig .tc .smem S1x126 .f32) (harg4 : arg4.IsWhole) (arg5 : Memref sig .tc .smem S1 .f32) (harg5 : arg5.IsWhole) (arg6 : Memref sig .tc .vmem S1x8x128 .f32) (harg6 : arg6.IsWhole) :
    cc0_body (F := F) i arg2 harg2 arg3 harg3 arg4 harg4 arg5 harg5 arg6 harg6 =
      Compact.body (nD := nD) (τ := τ) (Λ := Λ₀) arg2 arg3 arg4 arg5 arg6 (k0_cond1 i) (k0_cond2 i) := by
  rw [← part_eq i arg2 harg2 arg3 harg3 arg4 harg4 arg5 harg5 arg6 harg6]
  unfold cc0_body
  exact bind_pure (m := Prog (TpuEff nD τ sig (Elt F) Λ₀ .tc)) _

end Cert.Kernel.Body

end
-- ==== Proof.Steps.lean ====
/- What the compact body computes: its value as a pure function of the four blocks it reads, and the
   triples that say so. -/
module

public import proofs.«01_k».proof.Proof.Compact
public import Idealize.ShloMosaic.Lib.Pipeline.FrameBody
public import Idealize.ShloMosaic.Lib.Tactic
public import Idealize.ShloMosaic.Lib.VecWindow

@[expose] public section

noncomputable section

namespace Cert.Compact

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The register file -/

/-- Register `i` of the tree. -/
def Tree.rd {α : Type} : (n : Nat) → Tree α n → Nat → α
  | 0, a, _ => a
  | n + 1, t, i => if i % 2 = 0 then Tree.rd n t.1 (i / 2) else Tree.rd n t.2 (i / 2)

/-- The tree with register `i` replaced. -/
def Tree.wr {α : Type} : (n : Nat) → Tree α n → Nat → α → Tree α n
  | 0, _, _, a => a
  | n + 1, t, i, a => if i % 2 = 0 then (Tree.wr n t.1 (i / 2) a, t.2) else (t.1, Tree.wr n t.2 (i / 2) a)

/-- An even register lies in the left half. -/
theorem Tree.rd_even {α : Type} (n : Nat) (l r : Tree α n) (i : Nat) (h : i % 2 = 0) :
    Tree.rd (n + 1) (l, r) i = Tree.rd n l (i / 2) := if_pos h
/-- An odd register lies in the right half. -/
theorem Tree.rd_odd {α : Type} (n : Nat) (l r : Tree α n) (i : Nat) (h : ¬i % 2 = 0) :
    Tree.rd (n + 1) (l, r) i = Tree.rd n r (i / 2) := if_neg h
/-- Writing an even register changes the left half. -/
theorem Tree.wr_even {α : Type} (n : Nat) (l r : Tree α n) (i : Nat) (a : α) (h : i % 2 = 0) :
    Tree.wr (n + 1) (l, r) i a = (Tree.wr n l (i / 2) a, r) := if_pos h
/-- Writing an odd register changes the right half. -/
theorem Tree.wr_odd {α : Type} (n : Nat) (l r : Tree α n) (i : Nat) (a : α) (h : ¬i % 2 = 0) :
    Tree.wr (n + 1) (l, r) i a = (l, Tree.wr n r (i / 2) a) := if_neg h

/-- A case on a number that is zero or not. -/
theorem casesOn_zero {R : Type 1} (x : Nat) (a b : R) (h : x = 0) :
    (Nat.casesOn (motive := fun _ => R) x a (fun _ => b) : R) = a := by subst h; rfl
/-- The same case where the number is not zero. -/
theorem casesOn_pos {R : Type 1} (x : Nat) (a b : R) (h : ¬x = 0) :
    (Nat.casesOn (motive := fun _ => R) x a (fun _ => b) : R) = b := by
  cases x with
  | zero => exact absurd rfl h
  | succ j => rfl

/-- Reading continues with the register's contents. -/
theorem Tree.get_eq {α : Type} {R : Type 1} : ∀ (n : Nat) (t : Tree α n) (i : Nat) (k : α → R),
    Tree.get n t i k = k (Tree.rd n t i)
  | 0, _, _, _ => rfl
  | n + 1, (l, r), i, k => by
    by_cases h : i % 2 = 0
    · rw [Tree.rd_even n l r i h, ← Tree.get_eq n l (i / 2) k]
      exact casesOn_zero _ _ _ h
    · rw [Tree.rd_odd n l r i h, ← Tree.get_eq n r (i / 2) k]
      exact casesOn_pos _ _ _ h

/-- Writing continues with the changed tree. -/
theorem Tree.set_eq {α : Type} {R : Type 1} : ∀ (n : Nat) (t : Tree α n) (i : Nat) (a : α) (k : Tree α n → R),
    Tree.set n t i a k = k (Tree.wr n t i a)
  | 0, _, _, _, _ => rfl
  | n + 1, (l, r), i, a, k => by
    by_cases h : i % 2 = 0
    · rw [Tree.wr_even n l r i a h]
      exact (casesOn_zero _ _ _ h).trans (Tree.set_eq n l (i / 2) a fun l' => k (l', r))
    · rw [Tree.wr_odd n l r i a h]
      exact (casesOn_pos _ _ _ h).trans (Tree.set_eq n r (i / 2) a fun r' => k (l, r'))

/-- Reading after writing, at register numbers below the size. -/
theorem Tree.rd_wr {α : Type} : ∀ (n : Nat) (t : Tree α n) (i j : Nat) (a : α), i < 2 ^ n → j < 2 ^ n →
    Tree.rd n (Tree.wr n t i a) j = if j = i then a else Tree.rd n t j
  | 0, t, i, j, a, hi, hj => by
    rw [if_pos (by simp at hi hj; omega)]; rfl
  | n + 1, (l, r), i, j, a, hi, hj => by
    have hp : 2 ^ (n + 1) = 2 * 2 ^ n := by rw [Nat.pow_succ, Nat.mul_comm]
    have hi' : i / 2 < 2 ^ n := by omega
    have hj' : j / 2 < 2 ^ n := by omega
    by_cases h : i % 2 = 0
    · rw [Tree.wr_even n l r i a h]
      by_cases h' : j % 2 = 0
      · rw [Tree.rd_even n _ _ j h', Tree.rd_even n _ _ j h', Tree.rd_wr n _ _ _ _ hi' hj']
        by_cases e : j = i
        · rw [if_pos e, if_pos (by omega)]
        · rw [if_neg e, if_neg (by omega)]
      · rw [Tree.rd_odd n _ _ j h', Tree.rd_odd n _ _ j h', if_neg (by omega)]
    · rw [Tree.wr_odd n l r i a h]
      by_cases h' : j % 2 = 0
      · rw [Tree.rd_even n _ _ j h', Tree.rd_even n _ _ j h', if_neg (by omega)]
      · rw [Tree.rd_odd n _ _ j h', Tree.rd_odd n _ _ j h', Tree.rd_wr n _ _ _ _ hi' hj']
        by_cases e : j = i
        · rw [if_pos e, if_pos (by omega)]
        · rw [if_neg e, if_neg (by omega)]

/-! ## Values -/

variable {F : FTy → Type} [FloatOps F]

/-- Weight `i` of the weight block. -/
def wAt (x2 : Vec F S1x126 .f32) (i : Fin 126) : F .f32 :=
  x2 ((Rect.unit (s := S1x126) ![0, i.val] S1x1.size (in_w i)).emb (Shape.Idx.first (n_w.symm ▸ Nat.one_pos)))

/-- The bias. -/
def bAt (x3 : Vec F S1 .f32) : F .f32 :=
  x3 ((Rect.unit (s := S1) ![0] S1.size in_b).emb (Shape.Idx.first (n_b.symm ▸ Nat.one_pos)))

/-- Time step `t`'s block of scores, wires first. -/
def xAt (x0 : Vec F S25x1x8x128x126 .f32) (t : Fin 25) : FVec F S126x8x128 .f32 :=
  transpose S126x8x128 [2, 0, 1] (shapeCast S8x128x126
    (fun j => x0 ((Rect.unit (s := S25x1x8x128x126) ![t.val, 0, 0, 0, 0] S1x1x8x128x126.size (in_x t)).emb j)) sc_x) tr_x

/-- Time step `t`'s block of masks. -/
def mAt (x1 : Vec F S25x1x8x128 .f32) (t : Fin 25) : FVec F S8x128 .f32 :=
  shapeCast S8x128 (fun j => x1 ((Rect.unit (s := S25x1x8x128) ![t.val, 0, 0, 0] S1x1x8x128.size (in_m t)).emb j)) sc_m

/-- The registers with the wires of the list put in. -/
def fillV (x : FVec F S126x8x128 .f32) (l : List (Fin 126)) (st : Tree (FVec F S8x128 .f32) 8) : Tree (FVec F S8x128 .f32) 8 :=
  l.foldl (fun st i => Tree.wr 8 st i.val (wire x i)) st

/-- One instruction's effect on the registers. -/
def instrV (x2 : Vec F S1x126 .f32) (st : Tree (FVec F S8x128 .f32) 8) : Instr → Tree (FVec F S8x128 .f32) 8
  | .ce i j => Tree.wr 8 (Tree.wr 8 st i (maximumf (Tree.rd 8 st i) (Tree.rd 8 st j))) j (minimumf (Tree.rd 8 st i) (Tree.rd 8 st j))
  | .put i k => Tree.wr 8 st (128 + k) (mulf (Tree.rd 8 st i.val) (broadcast S8x128 (wAt x2 i)))
  | .add i k => Tree.wr 8 st (128 + k) (addf (Tree.rd 8 st (128 + k)) (mulf (Tree.rd 8 st i.val) (broadcast S8x128 (wAt x2 i))))

/-- The instructions' effect on the registers. -/
def netV (x2 : Vec F S1x126 .f32) (l : List Instr) (st : Tree (FVec F S8x128 .f32) 8) : Tree (FVec F S8x128 .f32) 8 :=
  l.foldl (instrV x2) st

/-- The registers after the network on time step `t`. -/
def regsV (x0 : Vec F S25x1x8x128x126 .f32) (x2 : Vec F S1x126 .f32) (t : Fin 25) : Tree (FVec F S8x128 .f32) 8 :=
  netV x2 net (fillV (xAt x0 t) wires (Tree.const (broadcast S8x128 (Scalar.ofBits .f32 0x00000000#32)) 8))

/-- Time step `t`'s value. -/
def stepV (x0 : Vec F S25x1x8x128x126 .f32) (x1 : Vec F S25x1x8x128 .f32) (x2 : Vec F S1x126 .f32) (x3 : Vec F S1 .f32)
    (t : Fin 25) : FVec F S8x128 .f32 :=
  select (cmpf .oeq (mAt x1 t) (broadcast S8x128 (Scalar.ofBits .f32 0x00000000#32)))
    (broadcast S8x128 (Scalar.ofBits .f32 0x49742400#32))
    (addf (addf (addf (addf (addf (addf (addf (addf (Tree.rd 8 (regsV x0 x2 t) 128) (Tree.rd 8 (regsV x0 x2 t) 129))
      (Tree.rd 8 (regsV x0 x2 t) 130)) (Tree.rd 8 (regsV x0 x2 t) 131)) (Tree.rd 8 (regsV x0 x2 t) 132))
      (Tree.rd 8 (regsV x0 x2 t) 133)) (Tree.rd 8 (regsV x0 x2 t) 134)) (Tree.rd 8 (regsV x0 x2 t) 135))
      (broadcast S8x128 (bAt x3)))

/-- The minimum over the time steps of the list, from `r`. -/
def restV (x0 : Vec F S25x1x8x128x126 .f32) (x1 : Vec F S25x1x8x128 .f32) (x2 : Vec F S1x126 .f32) (x3 : Vec F S1 .f32)
    (l : List (Fin 25)) (r : FVec F S8x128 .f32) : FVec F S8x128 .f32 :=
  l.foldl (fun r t => minimumf r (stepV x0 x1 x2 x3 t)) r

/-- The block's minimum. -/
def blockV (x0 : Vec F S25x1x8x128x126 .f32) (x1 : Vec F S25x1x8x128 .f32) (x2 : Vec F S1x126 .f32) (x3 : Vec F S1 .f32) :
    FVec F S8x128 .f32 :=
  restV x0 x1 x2 x3 laterSteps (stepV x0 x1 x2 x3 0)

/-- What the first grid point leaves in the output block. -/
def outA (x0 : Vec F S25x1x8x128x126 .f32) (x1 : Vec F S25x1x8x128 .f32) (x2 : Vec F S1x126 .f32) (x3 : Vec F S1 .f32) :
    Vec F S1x8x128 .f32 :=
  shapeCast S1x8x128 (blockV x0 x1 x2 x3) sc_o

/-- What a later grid point leaves in the output block that held `xo`. -/
def outB (x0 : Vec F S25x1x8x128x126 .f32) (x1 : Vec F S25x1x8x128 .f32) (x2 : Vec F S1x126 .f32) (x3 : Vec F S1 .f32)
    (xo : Vec F S1x8x128 .f32) : Vec F S1x8x128 .f32 :=
  shapeCast S1x8x128 (minimumf (shapeCast S8x128 xo sc_w) (blockV x0 x1 x2 x3)) sc_o

/-! ## Triples -/

/-- Filling the registers continues with the filled registers. -/
theorem fill_eq {R : Type 1} (x : FVec F S126x8x128 .f32) (l : List (Fin 126)) :
    ∀ (st : Tree (FVec F S8x128 .f32) 8) (k : Tree (FVec F S8x128 .f32) 8 → R), fill x l st k = k (fillV x l st) := by
  induction l with
  | nil => intro st k; rfl
  | cons i l ih =>
    intro st k
    show Tree.set 8 st i.val (wire x i) (fun st' => fill x l st' k) = _
    rw [Tree.set_eq, ih]; rfl

variable {nD : Nat} {τ : Topo} {sig : RefSig} {Λ : Labels}
variable {U : Type} [URA U]

local notation "𝕄" => MT nD τ sig Unit (Elt F) ℕ U ℕ

variable {defs : Defs nD τ sig (Elt F) Λ} (𝒱 : Variants) (c : Dev nD) (bd : Option 𝒱.V) (E : Set ℕ)

/-- A load through an owned memref continues with its contents at the rectangle. -/
theorem wp_owns_load {cs : CoreSpace} {s : Shape} {e : EltTy} {m : Memref sig .tc cs s e} {r : Rect s} {hl : m.view.LoadsAt r.toLoadRect}
    {k : (r.shape.Idx → Elt F e) → Prog (TpuEff nD τ sig (Elt F) Λ .tc) PUnit} {q : PosShare TreeShare} {X : s.Idx → Elt F e}
    {Q : PUnit → sProp 𝕄} :
    (owns (c : Thread nD τ) m q X : sProp 𝕄)
      ⊢ iprop((owns (c : Thread nD τ) m q X -∗ wp frame (wpE defs 𝒱 c bd) E (k fun x => X (r.emb x)) Q)
        -∗ wp frame (wpE defs 𝒱 c bd) E (.op (.load m r.toLoadRect hl) k) Q) := by
  unfold owns
  iintro ⟨%f, %hf, H⟩ Hk
  iapply (wp_load_rect (c := (c : Thread nD τ)) 𝒱 bd E (hl := hl) (k := k) (View.set_slice_subset _ _)) $$ H
  iintro H
  subst hf
  iapply Hk
  iexists f
  isplitr
  · ipureintro; rfl
  · iexact H

/-- The same for the load of one word. -/
theorem wp_owns_word {s : Shape} {e : EltTy} {m : Memref sig .tc .smem s e} {r : Rect s} {hw : (m.access r).Loads} {x : r.shape.Idx}
    {k : Elt F e → Prog (TpuEff nD τ sig (Elt F) Λ .tc) PUnit} {q : PosShare TreeShare} {X : s.Idx → Elt F e}
    {Q : PUnit → sProp 𝕄} :
    (owns (c : Thread nD τ) m q X : sProp 𝕄)
      ⊢ iprop((owns (c : Thread nD τ) m q X -∗ wp frame (wpE defs 𝒱 c bd) E (k (X (r.emb x))) Q)
        -∗ wp frame (wpE defs 𝒱 c bd) E (smemLoadElt (p := .tc) m r hw x k) Q) :=
  wp_owns_load 𝒱 c bd E (k := fun f => k (f x))

/-- A store of the whole output block leaves its payload. -/
theorem wp_owns_store {m : Memref sig .tc .vmem S1x8x128 .f32} {w : Vec F S1x8x128 .f32}
    {hx : (m.access (Rect.unit (s := S1x8x128) ![0, 0, 0] S1x8x128.size in_o)).Stores Finset.univ}
    {hm : (Finset.univ : Finset (Rect.unit (s := S1x8x128) ![0, 0, 0] S1x8x128.size in_o).shape.Idx) = Finset.univ ∨
      ∀ a, (Rect.unit (s := S1x8x128) ![0, 0, 0] S1x8x128.size in_o).stride a = 1}
    {k : PUnit → Prog (TpuEff nD τ sig (Elt F) Λ .tc) PUnit} {X : Vec F S1x8x128 .f32}
    {Q : PUnit → sProp 𝕄} :
    (owns (c : Thread nD τ) m fullShare X : sProp 𝕄)
      ⊢ iprop((owns (c : Thread nD τ) m fullShare w -∗ wp frame (wpE defs 𝒱 c bd) E (k ⟨⟩) Q)
        -∗ wp frame (wpE defs 𝒱 c bd) E (.op (.store m (Rect.unit (s := S1x8x128) ![0, 0, 0] S1x8x128.size in_o) w Finset.univ hx hm) k) Q) := by
  unfold owns
  iintro ⟨%f, %hf, H⟩ Hk
  iapply (wp_store (c := (c : Thread nD τ)) 𝒱 bd E (hx := hx) (hm := hm) (k := k)
    ((View.setOn_subset_set _ _).trans (View.set_slice_subset _ _))) $$ H
  iintro H
  iapply Hk
  iexists _
  isplitr
  swap
  · iexact H
  · ipureintro
    exact View.read_writes_full m.view f in_o w []

/-- The block at the rectangle that is all of it. -/
theorem read_all (xo : Vec F S1x8x128 .f32) :
    (fun x => xo ((Rect.unit (s := S1x8x128) ![0, 0, 0] S1x8x128.size in_o).emb x)) = xo := by
  funext x
  congr 1
  funext a
  refine Fin.ext ?_
  fin_cases a <;> (show 0 + 1 * _ = _; omega)

/-- The instructions continue with the registers they leave. -/
theorem wp_runNet (arg4 : Memref sig .tc .smem S1x126 .f32) (x2 : Vec F S1x126 .f32) (l : List Instr) {Q : PUnit → sProp 𝕄} :
    ∀ (st : Tree (FVec F S8x128 .f32) 8) (k : Tree (FVec F S8x128 .f32) 8 → Prog (TpuEff nD τ sig (Elt F) Λ .tc) PUnit),
    (owns (c : Thread nD τ) arg4 fullShare x2 : sProp 𝕄)
      ⊢ iprop((owns (c : Thread nD τ) arg4 fullShare x2 -∗ wp frame (wpE defs 𝒱 c bd) E (k (netV x2 l st)) Q)
        -∗ wp frame (wpE defs 𝒱 c bd) E (runNet arg4 l st k) Q) := by
  induction l with
  | nil =>
    intro st k
    iintro H Hk
    iapply Hk
    iexact H
  | cons a l ih =>
    intro st k
    cases a with
    | ce i j =>
      have e : runNet arg4 (.ce i j :: l) st k = runNet arg4 l (instrV x2 st (.ce i j)) k := by
        show Tree.get 8 st i (fun a => Tree.get 8 st j fun b => Tree.set 8 st i (maximumf a b) fun st1 =>
          Tree.set 8 st1 j (minimumf a b) fun st2 => runNet arg4 l st2 k) = _
        rw [Tree.get_eq, Tree.get_eq, Tree.set_eq, Tree.set_eq]; rfl
      rw [e]
      exact ih _ k
    | put i j =>
      have e : runNet arg4 (.put i j :: l) st k = loadW arg4 i (fun w => runNet arg4 l
          (Tree.wr 8 st (128 + j) (mulf (Tree.rd 8 st i.val) (broadcast S8x128 w))) k) := by
        show Tree.get 8 st i.val (fun a => loadW arg4 i fun w =>
          Tree.set 8 st (Nat.add 128 j) (mulf a (broadcast S8x128 w)) fun st1 => runNet arg4 l st1 k) = _
        rw [Tree.get_eq]; simp only [Tree.set_eq]; rfl
      rw [e]
      iintro H Hk
      iapply (wp_owns_word 𝒱 c bd E) $$ H
      iintro H
      iapply (ih _ k) $$ H
      iexact Hk
    | add i j =>
      have e : runNet arg4 (.add i j :: l) st k = loadW arg4 i (fun w => runNet arg4 l
          (Tree.wr 8 st (128 + j) (addf (Tree.rd 8 st (128 + j)) (mulf (Tree.rd 8 st i.val) (broadcast S8x128 w)))) k) := by
        show Tree.get 8 st i.val (fun a => loadW arg4 i fun w => Tree.get 8 st (Nat.add 128 j) fun s =>
          Tree.set 8 st (Nat.add 128 j) (addf s (mulf a (broadcast S8x128 w))) fun st1 => runNet arg4 l st1 k) = _
        rw [Tree.get_eq]; simp only [Tree.get_eq, Tree.set_eq]; rfl
      rw [e]
      iintro H Hk
      iapply (wp_owns_word 𝒱 c bd E) $$ H
      iintro H
      iapply (ih _ k) $$ H
      iexact Hk

/-- The four blocks a grid point reads, owned. -/
def ins (arg2 : Memref sig .tc .vmem S25x1x8x128x126 .f32) (arg3 : Memref sig .tc .vmem S25x1x8x128 .f32)
    (arg4 : Memref sig .tc .smem S1x126 .f32) (arg5 : Memref sig .tc .smem S1 .f32)
    (x0 : Vec F S25x1x8x128x126 .f32) (x1 : Vec F S25x1x8x128 .f32) (x2 : Vec F S1x126 .f32) (x3 : Vec F S1 .f32) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3)

/-- The work on one time step continues with its value. -/
theorem wp_oneT (arg2 : Memref sig .tc .vmem S25x1x8x128x126 .f32) (arg3 : Memref sig .tc .vmem S25x1x8x128 .f32)
    (arg4 : Memref sig .tc .smem S1x126 .f32) (arg5 : Memref sig .tc .smem S1 .f32)
    (x0 : Vec F S25x1x8x128x126 .f32) (x1 : Vec F S25x1x8x128 .f32) (x2 : Vec F S1x126 .f32) (x3 : Vec F S1 .f32)
    (t : Fin 25) (k : FVec F S8x128 .f32 → Prog (TpuEff nD τ sig (Elt F) Λ .tc) PUnit) {Q : PUnit → sProp 𝕄} :
    (ins c arg2 arg3 arg4 arg5 x0 x1 x2 x3 : sProp 𝕄)
      ⊢ iprop((ins c arg2 arg3 arg4 arg5 x0 x1 x2 x3 -∗ wp frame (wpE defs 𝒱 c bd) E (k (stepV x0 x1 x2 x3 t)) Q)
        -∗ wp frame (wpE defs 𝒱 c bd) E (oneT arg2 arg3 arg4 arg5 t k) Q) := by
  unfold ins oneT stepV regsV mAt xAt bAt
  generalize net = l
  simp only [fill_eq, Tree.get_eq]
  iintro ⟨H2, H3, H4, H5⟩ Hk
  iapply (wp_owns_load 𝒱 c bd E) $$ H2
  iintro H2
  iapply (wp_runNet 𝒱 c bd E arg4 x2 l) $$ H4
  iintro H4
  iapply (wp_owns_word 𝒱 c bd E) $$ H5
  iintro H5
  iapply (wp_owns_load 𝒱 c bd E) $$ H3
  iintro H3
  iapply Hk
  isplitl [H2]; · iexact H2
  isplitl [H3]; · iexact H3
  isplitl [H4]; · iexact H4
  iexact H5

/-- The later time steps continue with the minimum. -/
theorem wp_restT (arg2 : Memref sig .tc .vmem S25x1x8x128x126 .f32) (arg3 : Memref sig .tc .vmem S25x1x8x128 .f32)
    (arg4 : Memref sig .tc .smem S1x126 .f32) (arg5 : Memref sig .tc .smem S1 .f32)
    (x0 : Vec F S25x1x8x128x126 .f32) (x1 : Vec F S25x1x8x128 .f32) (x2 : Vec F S1x126 .f32) (x3 : Vec F S1 .f32)
    (l : List (Fin 25)) {Q : PUnit → sProp 𝕄} :
    ∀ (r : FVec F S8x128 .f32) (k : FVec F S8x128 .f32 → Prog (TpuEff nD τ sig (Elt F) Λ .tc) PUnit),
    (ins c arg2 arg3 arg4 arg5 x0 x1 x2 x3 : sProp 𝕄)
      ⊢ iprop((ins c arg2 arg3 arg4 arg5 x0 x1 x2 x3 -∗ wp frame (wpE defs 𝒱 c bd) E (k (restV x0 x1 x2 x3 l r)) Q)
        -∗ wp frame (wpE defs 𝒱 c bd) E (restT arg2 arg3 arg4 arg5 l r k) Q) := by
  induction l with
  | nil =>
    intro r k
    iintro H Hk
    iapply Hk
    iexact H
  | cons t l ih =>
    intro r k
    have e : restT (Λ := Λ) (nD := nD) (τ := τ) arg2 arg3 arg4 arg5 (t :: l) r k = oneT arg2 arg3 arg4 arg5 t fun v => restT arg2 arg3 arg4 arg5 l (minimumf r v) k := rfl
    have e' : restV x0 x1 x2 x3 (t :: l) r = restV x0 x1 x2 x3 l (minimumf r (stepV x0 x1 x2 x3 t)) := rfl
    rw [e, e']
    iintro H Hk
    iapply (wp_oneT 𝒱 c bd E arg2 arg3 arg4 arg5 x0 x1 x2 x3 t) $$ H
    iintro H
    iapply (ih _ k) $$ H
    iexact Hk

/-- The last step at the first grid point. -/
theorem tail_A (arg6 : Memref sig .tc .vmem S1x8x128 .f32) (c1 c2 : BitVec 1) (h1 : c1 = 1#1) (h2 : ¬c2 = 1#1) (res : FVec F S8x128 .f32) :
    tail (nD := nD) (τ := τ) (Λ := Λ) arg6 c1 c2 res =
      .op (.load arg6 (Rect.unit (s := S1x8x128) ![0, 0, 0] S1x8x128.size in_o).toLoadRect (View.loadsAt_vmem h_o)) fun _ =>
      .op (.store arg6 (Rect.unit (s := S1x8x128) ![0, 0, 0] S1x8x128.size in_o) (shapeCast S1x8x128 res sc_o) Finset.univ (View.stores_vmem_bits_univ h_o rfl) (.inl rfl)) fun _ => .ret ⟨⟩ := by
  unfold tail; rw [dif_pos h1, dif_neg h2]; rfl

/-- The last step at the later grid points. -/
theorem tail_B (arg6 : Memref sig .tc .vmem S1x8x128 .f32) (c1 c2 : BitVec 1) (h1 : ¬c1 = 1#1) (h2 : c2 = 1#1) (res : FVec F S8x128 .f32) :
    tail (nD := nD) (τ := τ) (Λ := Λ) arg6 c1 c2 res =
      .op (.load arg6 (Rect.unit (s := S1x8x128) ![0, 0, 0] S1x8x128.size in_o).toLoadRect (View.loadsAt_vmem h_o)) fun (v : Vec F S1x8x128 .f32) =>
      .op (.load arg6 (Rect.unit (s := S1x8x128) ![0, 0, 0] S1x8x128.size in_o).toLoadRect (View.loadsAt_vmem h_o)) fun _ =>
      .op (.store arg6 (Rect.unit (s := S1x8x128) ![0, 0, 0] S1x8x128.size in_o) (shapeCast S1x8x128 (minimumf (shapeCast S8x128 v sc_w) res) sc_o) Finset.univ (View.stores_vmem_bits_univ h_o rfl) (.inl rfl)) fun _ => .ret ⟨⟩ := by
  unfold tail; rw [dif_neg h1, dif_pos h2]; rfl

/-- The body at the first grid point. -/
theorem wp_body_A (arg2 : Memref sig .tc .vmem S25x1x8x128x126 .f32) (arg3 : Memref sig .tc .vmem S25x1x8x128 .f32)
    (arg4 : Memref sig .tc .smem S1x126 .f32) (arg5 : Memref sig .tc .smem S1 .f32) (arg6 : Memref sig .tc .vmem S1x8x128 .f32)
    (x0 : Vec F S25x1x8x128x126 .f32) (x1 : Vec F S25x1x8x128 .f32) (x2 : Vec F S1x126 .f32) (x3 : Vec F S1 .f32)
    (d : Vec F S1x8x128 .f32) (c1 c2 : BitVec 1) (h1 : c1 = 1#1) (h2 : ¬c2 = 1#1) {Q : PUnit → sProp 𝕄} :
    (iprop(ins c arg2 arg3 arg4 arg5 x0 x1 x2 x3 ∗ owns (c : Thread nD τ) arg6 fullShare d) : sProp 𝕄)
      ⊢ iprop((iprop(ins c arg2 arg3 arg4 arg5 x0 x1 x2 x3 ∗ owns (c : Thread nD τ) arg6 fullShare (outA x0 x1 x2 x3)) -∗ Q ⟨⟩)
        -∗ wp frame (wpE defs 𝒱 c bd) E (body arg2 arg3 arg4 arg5 arg6 c1 c2) Q) := by
  unfold body outA blockV
  generalize laterSteps = l
  iintro ⟨H, H6⟩ Hk
  iapply (wp_oneT 𝒱 c bd E arg2 arg3 arg4 arg5 x0 x1 x2 x3 0) $$ H
  iintro H
  iapply (wp_restT 𝒱 c bd E arg2 arg3 arg4 arg5 x0 x1 x2 x3 l) $$ H
  iintro H
  rw [tail_A arg6 c1 c2 h1 h2]
  iapply (wp_owns_load 𝒱 c bd E) $$ H6
  iintro H6
  iapply (wp_owns_store 𝒱 c bd E) $$ H6
  iintro H6
  rw [wp_ret]
  imodintro
  iapply Hk
  isplitl [H]; · iexact H
  iexact H6

/-- The body at a later grid point. -/
theorem wp_body_B (arg2 : Memref sig .tc .vmem S25x1x8x128x126 .f32) (arg3 : Memref sig .tc .vmem S25x1x8x128 .f32)
    (arg4 : Memref sig .tc .smem S1x126 .f32) (arg5 : Memref sig .tc .smem S1 .f32) (arg6 : Memref sig .tc .vmem S1x8x128 .f32)
    (x0 : Vec F S25x1x8x128x126 .f32) (x1 : Vec F S25x1x8x128 .f32) (x2 : Vec F S1x126 .f32) (x3 : Vec F S1 .f32)
    (xo : Vec F S1x8x128 .f32) (c1 c2 : BitVec 1) (h1 : ¬c1 = 1#1) (h2 : c2 = 1#1) {Q : PUnit → sProp 𝕄} :
    (iprop(ins c arg2 arg3 arg4 arg5 x0 x1 x2 x3 ∗ owns (c : Thread nD τ) arg6 fullShare xo) : sProp 𝕄)
      ⊢ iprop((iprop(ins c arg2 arg3 arg4 arg5 x0 x1 x2 x3 ∗ owns (c : Thread nD τ) arg6 fullShare (outB x0 x1 x2 x3 xo)) -∗ Q ⟨⟩)
        -∗ wp frame (wpE defs 𝒱 c bd) E (body arg2 arg3 arg4 arg5 arg6 c1 c2) Q) := by
  unfold body outB blockV
  generalize laterSteps = l
  iintro ⟨H, H6⟩ Hk
  iapply (wp_oneT 𝒱 c bd E arg2 arg3 arg4 arg5 x0 x1 x2 x3 0) $$ H
  iintro H
  iapply (wp_restT 𝒱 c bd E arg2 arg3 arg4 arg5 x0 x1 x2 x3 l) $$ H
  iintro H
  rw [tail_B arg6 c1 c2 h1 h2]
  iapply (wp_owns_load 𝒱 c bd E) $$ H6
  iintro H6
  iapply (wp_owns_load 𝒱 c bd E) $$ H6
  iintro H6
  rw [read_all]
  iapply (wp_owns_store 𝒱 c bd E) $$ H6
  iintro H6
  rw [wp_ret]
  imodintro
  iapply Hk
  isplitl [H]; · iexact H
  iexact H6

end Cert.Compact

end
-- ==== Proof.BodyIdeal.lean ====
/- The printed body of the idealized program is the compact one. -/
module

public import proofs.«01_k».proof.KernelIdeal
public import proofs.«01_k».proof.Proof.Compact
public import Idealize.ShloMosaic.Lib.Pipeline.Regions

@[expose] public section

noncomputable section

namespace Cert.KernelIdeal.Body

open Idealize.ShloMosaic Idealize.SL.Sem

variable {F : FTy → Type} [FloatOps F] [Facts]

/-- The part the printed body consists of is the compact body. -/
theorem part_eq (i : grid0.Coords) (arg2 : Memref sig .tc .vmem S25x1x8x128x126 .f32) (harg2 : arg2.IsWhole) (arg3 : Memref sig .tc .vmem S25x1x8x128 .f32) (harg3 : arg3.IsWhole) (arg4 : Memref sig .tc .smem S1x126 .f32) (harg4 : arg4.IsWhole) (arg5 : Memref sig .tc .smem S1 .f32) (harg5 : arg5.IsWhole) (arg6 : Memref sig .tc .vmem S1x8x128 .f32) (harg6 : arg6.IsWhole) :
    k0_part1668 (F := F) i arg2 harg2 arg3 harg3 arg4 harg4 arg5 harg5 arg6 harg6 =
      Compact.body (nD := nD) (τ := τ) (Λ := Λ₀) arg2 arg3 arg4 arg5 arg6 (k0_cond1 i) (k0_cond2 i) := by
  chain_rfl

/-- The printed body is the compact body. -/
theorem body_eq (i : grid0.Coords) (arg2 : Memref sig .tc .vmem S25x1x8x128x126 .f32) (harg2 : arg2.IsWhole) (arg3 : Memref sig .tc .vmem S25x1x8x128 .f32) (harg3 : arg3.IsWhole) (arg4 : Memref sig .tc .smem S1x126 .f32) (harg4 : arg4.IsWhole) (arg5 : Memref sig .tc .smem S1 .f32) (harg5 : arg5.IsWhole) (arg6 : Memref sig .tc .vmem S1x8x128 .f32) (harg6 : arg6.IsWhole) :
    cc0_body (F := F) i arg2 harg2 arg3 harg3 arg4 harg4 arg5 harg5 arg6 harg6 =
      Compact.body (nD := nD) (τ := τ) (Λ := Λ₀) arg2 arg3 arg4 arg5 arg6 (k0_cond1 i) (k0_cond2 i) := by
  rw [← part_eq i arg2 harg2 arg3 harg3 arg4 harg4 arg5 harg5 arg6 harg6]
  unfold cc0_body
  exact bind_pure (m := Prog (TpuEff nD τ sig (Elt F) Λ₀ .tc)) _

end Cert.KernelIdeal.Body

end
-- ==== Proof.LaunchIdeal.lean ====
/- The launch of the idealized program around the compact body: what each grid point leaves in the output block, the
   pipeline's proof data, the run and the frame. The set-up follows the generated frame certificate's. -/
module

public import proofs.«01_k».proof.Proof.BodyIdeal
public import proofs.«01_k».proof.Proof.Steps
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Launch

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines before the region allocate nothing. -/
theorem hostOps0_fresh : (hostOps0 : List (HloOp τ sig (Elt F))).Forall fun op => op.fresh = ∅ := by
  simp only [List.Forall]; repeat' constructor
/-- The line after the region allocates nothing. -/
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 8 % 1 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Whether output 4's buffer is FRESH at each position `1 ‥ N` — holds nothing the body stored since the region's entry or the
    last write-back (written back at the point before, or idle there and fresh before it) —, as a bitmask the classifier
    computed, bit `n` for position `n + 1`; position 0 is fresh. -/
def freshTab0_4 : ℕ → Bool
  | 0 => true
  | n + 1 => (0x80 : ℕ).testBit n
/-- The table of the points at which the output block is new, a point at a time. -/
theorem freshTab0_4_step : ∀ t : Fin cfg0.N,
    freshTab0_4 (t.val + 1) = ((cfg0.win 4).flush t || (cfg0.idle 4 (cfg0.grid.coords t) && freshTab0_4 t.val)) := by decide +kernel
/-- The output block is new where the table says. -/
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live: the case stores into it. -/
theorem liveAt0_4_A : ∀ t : Fin cfg0.N, cond0_0 (grid0.coords t) → ¬cond0_1 (grid0.coords t) → cfg0.idle 4 (grid0.coords t) = false := by decide +kernel
/-- At the points of case B the printed configuration (`Cfg.idle`) calls output 4 live: the case stores into it. -/
theorem liveAt0_4_B : ∀ t : Fin cfg0.N, ¬cond0_0 (grid0.coords t) → cond0_1 (grid0.coords t) → cfg0.idle 4 (grid0.coords t) = false := by decide +kernel
/-- At the points of case B, which keeps output 4's prior contents (reads it before covering, or covers it in part), the
    window's buffer is not FRESH: something was stored into it since the region's entry or its last write-back, idle points
    between or not (Lib/Pipeline/TableIdle.lean `Cfg.fresh`, by the table `freshTab0_4`). -/
theorem notFresh0_4_B : ∀ t : Fin cfg0.N, ¬cond0_0 (grid0.coords t) → cond0_1 (grid0.coords t) → cfg0.fresh 4 t.val = false := by
  intro t; rw [fresh0_4_eq t]; revert t; decide +kernel

/-! ## The kernel body on any staging memrefs: a subtype the run finds -/

/-- Each window's current staging memref at point `t`, spelled as the pipeline passes it (`bodyAt0`), and its wholeness. -/
abbrev ms0_0 (t : Fin cfg0.N) : Memref sig .tc .vmem S25x1x8x128x126 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S25x1x8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1x126 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)

/-- The body's run in case A. -/
theorem run_A (c : Dev nD) (i : grid0.Coords) (arg2 : Memref sig .tc .vmem S25x1x8x128x126 .f32) (harg2 : arg2.IsWhole) (arg3 : Memref sig .tc .vmem S25x1x8x128 .f32) (harg3 : arg3.IsWhole) (arg4 : Memref sig .tc .smem S1x126 .f32) (harg4 : arg4.IsWhole) (arg5 : Memref sig .tc .smem S1 .f32) (harg5 : arg5.IsWhole) (arg6 : Memref sig .tc .vmem S1x8x128 .f32) (harg6 : arg6.IsWhole) (hc0 : cond0_0 i) (hc1 : ¬cond0_1 i)
    (x0 : Vec F S25x1x8x128x126 .f32) (x1 : Vec F S25x1x8x128 .f32) (x2 : Vec F S1x126 .f32) (x3 : Vec F S1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (Compact.outA x0 x1 x2 x3)) -∗ K ⟨⟩))
      ⊢ wp frame (wpE (defs₀ (F := F)) Variants.none c none) E (cc0_body i arg2 harg2 arg3 harg3 arg4 harg4 arg5 harg5 arg6 harg6) K := by
  rw [Body.body_eq]
  iintro ⟨H0, H1, H2, H3, ⟨%xo, H4⟩, Hk⟩
  iapply (BIClass.wand_elim (Compact.wp_body_A Variants.none c none E arg2 arg3 arg4 arg5 arg6 x0 x1 x2 x3 xo _ _ hc0 hc1))
  unfold Compact.ins
  isplitl [H0 H1 H2 H3 H4]
  · isplitl [H0 H1 H2 H3]
    · isplitl [H0]; · iexact H0
      isplitl [H1]; · iexact H1
      isplitl [H2]; · iexact H2
      iexact H3
    · iexact H4
  iintro ⟨⟨H0, H1, H2, H3⟩, H4⟩
  iapply Hk
  isplitl [H0]; · iexact H0
  isplitl [H1]; · iexact H1
  isplitl [H2]; · iexact H2
  isplitl [H3]; · iexact H3
  iexact H4

/-- The body's run in case B. -/
theorem run_B (c : Dev nD) (i : grid0.Coords) (arg2 : Memref sig .tc .vmem S25x1x8x128x126 .f32) (harg2 : arg2.IsWhole) (arg3 : Memref sig .tc .vmem S25x1x8x128 .f32) (harg3 : arg3.IsWhole) (arg4 : Memref sig .tc .smem S1x126 .f32) (harg4 : arg4.IsWhole) (arg5 : Memref sig .tc .smem S1 .f32) (harg5 : arg5.IsWhole) (arg6 : Memref sig .tc .vmem S1x8x128 .f32) (harg6 : arg6.IsWhole) (hc0 : ¬cond0_0 i) (hc1 : cond0_1 i)
    (x0 : Vec F S25x1x8x128x126 .f32) (x1 : Vec F S25x1x8x128 .f32) (x2 : Vec F S1x126 .f32) (x3 : Vec F S1 .f32) (xo : Vec F S1x8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (Compact.outB x0 x1 x2 x3 xo)) -∗ K ⟨⟩))
      ⊢ wp frame (wpE (defs₀ (F := F)) Variants.none c none) E (cc0_body i arg2 harg2 arg3 harg3 arg4 harg4 arg5 harg5 arg6 harg6) K := by
  rw [Body.body_eq]
  iintro ⟨H0, H1, H2, H3, H4, Hk⟩
  iapply (BIClass.wand_elim (Compact.wp_body_B Variants.none c none E arg2 arg3 arg4 arg5 arg6 x0 x1 x2 x3 xo _ _ hc0 hc1))
  unfold Compact.ins
  isplitl [H0 H1 H2 H3 H4]
  · isplitl [H0 H1 H2 H3]
    · isplitl [H0]; · iexact H0
      isplitl [H1]; · iexact H1
      isplitl [H2]; · iexact H2
      iexact H3
    · iexact H4
  iintro ⟨⟨H0, H1, H2, H3⟩, H4⟩
  iapply Hk
  isplitl [H0]; · iexact H0
  isplitl [H1]; · iexact H1
  isplitl [H2]; · iexact H2
  isplitl [H3]; · iexact H3
  iexact H4

/-! ## What the outputs hold after each point -/

/-- What the output's staging buffer holds after the body at position `n`: the first block's minimum,
    then the minimum of the contents so far and the block's. -/
def outsAt0 (c : Dev nD) : (n : ℕ) → n < cfg0.N → Vec F S1x8x128 .f32
  | 0, hn => Compact.outA (iblk m c 0 ⟨0, hn⟩) (iblk m c 1 ⟨0, hn⟩) (iblk m c 2 ⟨0, hn⟩) (iblk m c 3 ⟨0, hn⟩)
  | n + 1, hn => Compact.outB (iblk m c 0 ⟨n + 1, hn⟩) (iblk m c 1 ⟨n + 1, hn⟩) (iblk m c 2 ⟨n + 1, hn⟩) (iblk m c 3 ⟨n + 1, hn⟩)
      (outsAt0 c n (Nat.lt_of_succ_lt hn))

/-- `outsAt0` at the first point. -/
theorem outsAt0_A (c : Dev nD) (t : Fin cfg0.N) (h0 : t.val % 8 = 0) (h1 : ¬1 ≤ t.val) :
    outsAt0 m c t.val t.isLt = Compact.outA (iblk m c 0 t) (iblk m c 1 t) (iblk m c 2 t) (iblk m c 3 t) := by
  obtain ⟨n, hn⟩ := t
  cases n with
  | zero => rfl
  | succ n => exact absurd (Nat.succ_le_succ (Nat.zero_le n)) h1

/-- `outsAt0` at a later point. -/
theorem outsAt0_B (c : Dev nD) (t : Fin cfg0.N) (h0 : ¬t.val % 8 = 0) (h1 : 1 ≤ t.val) :
    outsAt0 m c t.val t.isLt = Compact.outB (iblk m c 0 t) (iblk m c 1 t) (iblk m c 2 t) (iblk m c 3 t)
      (outsAt0 m c (t.val - 1) (Nat.lt_of_le_of_lt (Nat.sub_le _ _) t.isLt)) := by
  obtain ⟨n, hn⟩ := t
  cases n with
  | zero => exact absurd (Nat.zero_mod _) h0
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What window 1 holds after a point. -/
theorem after0_1 (c : Dev nD) (t : Fin cfg0.N) : (dats m 0 c).after 1 t = iblk m c 1 t := by dsimp only [dats]
/-- What window 2 holds after a point. -/
theorem after0_2 (c : Dev nD) (t : Fin cfg0.N) : (dats m 0 c).after 2 t = iblk m c 2 t := by dsimp only [dats]
/-- What window 3 holds after a point. -/
theorem after0_3 (c : Dev nD) (t : Fin cfg0.N) : (dats m 0 c).after 3 t = iblk m c 3 t := by dsimp only [dats]
/-- What the output window holds after a point. -/
theorem after0_4 (c : Dev nD) (t : Fin cfg0.N) : (dats m 0 c).after 4 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What window 1 holds before a point. -/
theorem before0_1 (c : Dev nD) (t : Fin cfg0.N) (d) : (dats m 0 c).before 1 t d = iblk m c 1 t :=
  before0_1_of m (dats m 0 c) (A_eq m c 1) (after0_1 m c) t d
/-- What window 2 holds before a point. -/
theorem before0_2 (c : Dev nD) (t : Fin cfg0.N) (d) : (dats m 0 c).before 2 t d = iblk m c 2 t :=
  before0_2_of m (dats m 0 c) (A_eq m c 2) (after0_2 m c) t d
/-- What window 3 holds before a point. -/
theorem before0_3 (c : Dev nD) (t : Fin cfg0.N) (d) : (dats m 0 c).before 3 t d = iblk m c 3 t :=
  before0_3_of m (dats m 0 c) (A_eq m c 3) (after0_3 m c) t d

/-- Output 4's contents CARRY through the points that leave it idle: at such a point, its buffer not fresh, the proof data's
    `after` is the point before's (the case there stores nothing into the window and its term says so; a case that stores
    into it is not idle there by `liveAt0_4_κ`) — the hypothesis of Lib/Pipeline/TableIdle.lean `Dat.before_out_traj`. -/
theorem hcarry0_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have hN : t.val < 8 := lt_of_lt_of_eq t.isLt (show cfg0.N = 8 from N_0)
  rw [after0_4, after0_4]
  by_cases h0 : t.val % 8 = 0
  · by_cases h1 : 1 ≤ t.val
    · exfalso; omega
    · rw [liveAt0_4_A t ((hcond0_0 t).mpr h0) (fun h => h1 ((hcond0_1 t).mp h))] at hi
      exact absurd hi Bool.false_ne_true
  · by_cases h1 : 1 ≤ t.val
    · rw [liveAt0_4_B t (fun h => h0 ((hcond0_0 t).mp h)) ((hcond0_1 t).mpr h1)] at hi
      exact absurd hi Bool.false_ne_true
    · exfalso; omega
/-- At a point of case B output 4's current staging buffer holds what the point before left: the buffer is not fresh
    there (`notFresh0_4_B`: stored into since the region's entry or the last write-back, carried through the points that
    leave it idle by `hcarry0_4`; Lib/Pipeline/TableIdle.lean `Dat.before_out_traj`). -/
theorem before0_4_B (c : Dev nD) (t : Fin cfg0.N) (h0 : ¬t.val % 8 = 0) (h1 : 1 ≤ t.val) (d) :
    (dats m 0 c).before 4 t d = (outsAt0 m c (t.val - 1) (Nat.lt_of_le_of_lt (Nat.sub_le _ _) t.isLt)) := by
  rw [Dat.before_out_traj _ 4 rfl (fun _ _ => rfl) (hcarry0_4 m c) t.val t rfl d,
    if_neg (by rw [notFresh0_4_B t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 8 := lt_of_lt_of_eq t.isLt (show cfg0.N = 8 from N_0)
  by_cases h0 : t.val % 8 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4_A t ((hcond0_0 t).mpr h0) (fun h => h1 ((hcond0_1 t).mp h))], after0_4]
      rw [outsAt0_A m c t h0 h1]
      iintro ⟨HΦ, Ho, ⟨%d0, H0⟩, ⟨%d1, H1⟩, ⟨%d2, H2⟩, ⟨%d3, H3⟩, ⟨%d4, H4⟩⟩
      iapply (run_A c (grid0.coords t) _ _ _ _ _ _ _ _ _ _ ((hcond0_0 t).mpr h0) (fun h => h1 ((hcond0_1 t).mp h)) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4_B t (fun h => h0 ((hcond0_0 t).mp h)) ((hcond0_1 t).mpr h1)], after0_4]
      rw [outsAt0_B m c t h0 h1]
      simp only [before0_4_B m c t h0 h1]
      iintro ⟨HΦ, Ho, ⟨%d0, H0⟩, ⟨%d1, H1⟩, ⟨%d2, H2⟩, ⟨%d3, H3⟩, ⟨%d4, H4⟩⟩
      iapply (run_B c (grid0.coords t) _ _ _ _ _ _ _ _ _ _ (fun h => h0 ((hcond0_0 t).mp h)) ((hcond0_1 t).mpr h1) (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every execution of @main ends, the argument arrays end unchanged, and every semaphore counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Launch

end
-- ==== Proof.Network.lean ====
/- The comparator network sorts: the odd-even merge network on 2^k wires, by the 0-1 principle. -/
module

public import Idealize.ShloMosaic.PureOps

@[expose] public section

namespace Cert.Network

universe u w

/-- One comparator `(i, j)`: wire `i` gets `mx`, wire `j` gets `mn` of the two. -/
def ceStep {α : Type u} (mx mn : α → α → α) (v : Nat → α) (p : Nat × Nat) : Nat → α :=
  fun k => if k = p.2 then mn (v p.1) (v p.2) else if k = p.1 then mx (v p.1) (v p.2) else v k

/-- A list of comparators, first to last. -/
def ceRun {α : Type u} (mx mn : α → α → α) (l : List (Nat × Nat)) (v : Nat → α) : Nat → α :=
  l.foldl (ceStep mx mn) v

/-- Running an append is running one list after the other. -/
theorem ceRun_append {α : Type u} (mx mn : α → α → α) (l l' : List (Nat × Nat)) (v : Nat → α) :
    ceRun mx mn (l ++ l') v = ceRun mx mn l' (ceRun mx mn l v) := List.foldl_append

/-- Running a nonempty list. -/
theorem ceRun_cons {α : Type u} (mx mn : α → α → α) (p : Nat × Nat) (l : List (Nat × Nat)) (v : Nat → α) :
    ceRun mx mn (p :: l) v = ceRun mx mn l (ceStep mx mn v p) := rfl

/-- A map that carries the two operations to two others carries the network's run. -/
theorem ceRun_hom {α : Type u} {β : Type w} {mx mn : α → α → α} {mx' mn' : β → β → β} (f : α → β)
    (h1 : ∀ a b, f (mx a b) = mx' (f a) (f b)) (h2 : ∀ a b, f (mn a b) = mn' (f a) (f b))
    (l : List (Nat × Nat)) : ∀ v : Nat → α, (fun k => f (ceRun mx mn l v k)) = ceRun mx' mn' l (fun k => f (v k)) := by
  induction l with
  | nil => intro v; rfl
  | cons p l ih =>
    intro v
    rw [ceRun_cons, ceRun_cons, ih]
    congr 1
    funext k
    simp only [ceStep]
    split
    · exact h2 _ _
    · split
      · exact h1 _ _
      · rfl

/-- The two wires of a comparator under a renaming of the wires. -/
def ren (g : Nat → Nat) (l : List (Nat × Nat)) : List (Nat × Nat) := l.map fun p => (g p.1, g p.2)

/-- A network on renamed wires is the network on the wires read through the renaming. -/
theorem ceRun_ren {α : Type u} (mx mn : α → α → α) {g : Nat → Nat} (hg : Function.Injective g) (l : List (Nat × Nat)) :
    ∀ (v : Nat → α) (k : Nat), ceRun mx mn (ren g l) v (g k) = ceRun mx mn l (fun k => v (g k)) k := by
  induction l with
  | nil => intro v k; rfl
  | cons p l ih =>
    intro v k
    show ceRun mx mn (ren g l) (ceStep mx mn v (g p.1, g p.2)) (g k) = _
    rw [ih, ceRun_cons]
    congr 1
    funext k
    simp only [ceStep, hg.eq_iff]

/-- A wire no comparator touches keeps its value. -/
theorem ceRun_off {α : Type u} (mx mn : α → α → α) (l : List (Nat × Nat)) :
    ∀ (v : Nat → α) (k : Nat), (∀ p ∈ l, k ≠ p.1 ∧ k ≠ p.2) → ceRun mx mn l v k = v k := by
  induction l with
  | nil => intro v k _; rfl
  | cons p l ih =>
    intro v k h
    rw [ceRun_cons, ih _ _ fun q hq => h q (List.mem_cons_of_mem _ hq)]
    have := h p List.mem_cons_self
    simp [ceStep, this.1, this.2]

/-- A wire outside the renaming's range keeps its value. -/
theorem ceRun_ren_off {α : Type u} (mx mn : α → α → α) {g : Nat → Nat} (l : List (Nat × Nat)) (v : Nat → α) (k : Nat)
    (h : ∀ s, k ≠ g s) : ceRun mx mn (ren g l) v k = v k := by
  refine ceRun_off mx mn _ v k fun p hp => ?_
  obtain ⟨q, _, rfl⟩ := List.mem_map.1 hp
  exact ⟨h _, h _⟩

/-- The last layer of a merge: comparators `(1, 2), (3, 4), …`, `n` of them. -/
def layer (n : Nat) : List (Nat × Nat) := (List.range n).map fun t => (2 * t + 1, 2 * t + 2)

/-- What the last layer leaves on each wire. -/
theorem layer_run {α : Type u} (mx mn : α → α → α) (v : Nat → α) (n : Nat) :
    (∀ t, t < n → ceRun mx mn (layer n) v (2 * t + 1) = mx (v (2 * t + 1)) (v (2 * t + 2)))
    ∧ (∀ t, t < n → ceRun mx mn (layer n) v (2 * t + 2) = mn (v (2 * t + 1)) (v (2 * t + 2)))
    ∧ ceRun mx mn (layer n) v 0 = v 0 ∧ ∀ k, 2 * n < k → ceRun mx mn (layer n) v k = v k := by
  induction n with
  | zero => refine ⟨by omega, by omega, rfl, fun _ _ => rfl⟩
  | succ n ih =>
    obtain ⟨h1, h2, h3, h4⟩ := ih
    have e : layer (n + 1) = layer n ++ [(2 * n + 1, 2 * n + 2)] := by simp [layer, List.range_succ]
    rw [e, ceRun_append]
    generalize ceRun mx mn (layer n) v = x at h1 h2 h3 h4
    have h5 := h4 (2 * n + 1) (by omega)
    have h6 := h4 (2 * n + 2) (by omega)
    refine ⟨fun t ht => ?_, fun t ht => ?_, ?_, fun k hk => ?_⟩
    · rcases Nat.lt_or_ge t n with h | h
      · simp only [ceRun, List.foldl, ceStep]
        rw [if_neg (by omega), if_neg (by omega), h1 t h]
      · obtain rfl : t = n := by omega
        simp only [ceRun, List.foldl, ceStep]
        rw [if_neg (by omega), if_pos trivial, h5, h6]
    · rcases Nat.lt_or_ge t n with h | h
      · simp only [ceRun, List.foldl, ceStep]
        rw [if_neg (by omega), if_neg (by omega), h2 t h]
      · obtain rfl : t = n := by omega
        simp only [ceRun, List.foldl, ceStep]
        rw [if_pos trivial, h5, h6]
    · simp only [ceRun, List.foldl, ceStep]
      rw [if_neg (by omega), if_neg (by omega), h3]
    · simp only [ceRun, List.foldl, ceStep]
      rw [if_neg (by omega), if_neg (by omega), h4 k (by omega)]

/-- The odd-even merge of the two halves of `2^d` wires. -/
def mergeB : Nat → List (Nat × Nat)
  | 0 => []
  | 1 => [(0, 1)]
  | d + 2 => ren (fun s => 2 * s) (mergeB (d + 1)) ++ ren (fun s => 2 * s + 1) (mergeB (d + 1)) ++ layer (2 ^ (d + 1) - 1)

/-- The odd-even merge sort of `2^k` wires. -/
def sortB : Nat → List (Nat × Nat)
  | 0 => []
  | k + 1 => sortB k ++ ren (fun s => 2 ^ k + s) (sortB k) ++ mergeB (k + 1)

/-- A merge touches its wires only. -/
theorem mergeB_lt : ∀ d, ∀ p ∈ mergeB d, p.1 < 2 ^ d ∧ p.2 < 2 ^ d
  | 0, p, h => by simp [mergeB] at h
  | 1, p, h => by simp [mergeB] at h; subst h; simp
  | d + 2, p, h => by
    have e : 2 ^ (d + 2) = 2 * 2 ^ (d + 1) := by rw [pow_succ, Nat.mul_comm]
    simp only [mergeB, ren, layer, List.mem_append, List.mem_map, List.mem_range] at h
    rcases h with (⟨q, hq, rfl⟩ | ⟨q, hq, rfl⟩) | ⟨t, ht, rfl⟩
    · have := mergeB_lt (d + 1) q hq; simp only; omega
    · have := mergeB_lt (d + 1) q hq; simp only; omega
    · simp only; omega

/-- A sort touches its wires only. -/
theorem sortB_lt : ∀ k, ∀ p ∈ sortB k, p.1 < 2 ^ k ∧ p.2 < 2 ^ k
  | 0, p, h => by simp [sortB] at h
  | k + 1, p, h => by
    have e : 2 ^ (k + 1) = 2 * 2 ^ k := by rw [pow_succ, Nat.mul_comm]
    simp only [sortB, ren, List.mem_append, List.mem_map] at h
    rcases h with (h | ⟨q, hq, rfl⟩) | h
    · have := sortB_lt k p h; omega
    · have := sortB_lt k q hq; simp only; omega
    · exact mergeB_lt (k + 1) p h

/-- On 0-1 inputs whose halves are ones then zeros, a merge leaves ones then zeros. -/
theorem mergeB_sorts : ∀ (d : Nat) (v : Nat → Bool) (p q : Nat), p ≤ 2 ^ d → q ≤ 2 ^ d →
    (∀ t, t < 2 ^ d → v t = decide (t < p)) → (∀ t, t < 2 ^ d → v (2 ^ d + t) = decide (t < q)) →
    ∀ t, t < 2 ^ (d + 1) → ceRun or and (mergeB (d + 1)) v t = decide (t < p + q)
  | 0, v, p, q, hp, hq, h0, h1, t, ht => by
    have e0 := h0 0 (by simp)
    have e1 := h1 0 (by simp)
    simp only [pow_zero, Nat.add_zero] at e0 e1 hp hq
    simp only [zero_add, pow_one] at ht
    have hp' : p = 0 ∨ p = 1 := by omega
    have hq' : q = 0 ∨ q = 1 := by omega
    have ht' : t = 0 ∨ t = 1 := by omega
    rcases hp' with rfl | rfl <;> rcases hq' with rfl | rfl <;> rcases ht' with rfl | rfl <;>
      simp [mergeB, ceRun, ceStep, e0, e1]
  | d + 1, v, p, q, hp, hq, h0, h1, t, ht => by
    have e1 : 2 ^ (d + 1) = 2 * 2 ^ d := by rw [pow_succ, Nat.mul_comm]
    have e2 : 2 ^ (d + 1 + 1) = 2 * 2 ^ (d + 1) := by rw [pow_succ, Nat.mul_comm]
    have hev : ∀ s, s < 2 ^ (d + 1) → ceRun or and (ren (fun s => 2 * s) (mergeB (d + 1))) v (2 * s)
        = decide (s < (p + 1) / 2 + (q + 1) / 2) := by
      intro s hs
      rw [ceRun_ren or and (g := fun s => 2 * s) (fun a b h => by simp only at h; omega)]
      refine mergeB_sorts d _ _ _ (by omega) (by omega) (fun t ht => ?_) (fun t ht => ?_) s hs
      · rw [h0 _ (by omega)]; congr 1; apply propext; omega
      · rw [show 2 * (2 ^ d + t) = 2 ^ (d + 1) + 2 * t by omega, h1 _ (by omega)]; congr 1; apply propext; omega
    have hod : ∀ s, ceRun or and (ren (fun s => 2 * s) (mergeB (d + 1))) v (2 * s + 1) = v (2 * s + 1) :=
      fun s => ceRun_ren_off or and _ v _ fun r => by omega
    generalize hv1 : ceRun or and (ren (fun s => 2 * s) (mergeB (d + 1))) v = v1 at hev hod
    have hev2 : ∀ s, ceRun or and (ren (fun s => 2 * s + 1) (mergeB (d + 1))) v1 (2 * s) = v1 (2 * s) :=
      fun s => ceRun_ren_off or and _ v1 _ fun r => by omega
    have hod2 : ∀ s, s < 2 ^ (d + 1) → ceRun or and (ren (fun s => 2 * s + 1) (mergeB (d + 1))) v1 (2 * s + 1)
        = decide (s < p / 2 + q / 2) := by
      intro s hs
      rw [ceRun_ren or and (g := fun s => 2 * s + 1) (fun a b h => by simp only at h; omega)]
      refine mergeB_sorts d _ _ _ (by omega) (by omega) (fun t ht => ?_) (fun t ht => ?_) s hs
      · rw [hod, h0 _ (by omega)]; congr 1; apply propext; omega
      · rw [hod, show 2 * (2 ^ d + t) + 1 = 2 ^ (d + 1) + (2 * t + 1) by omega, h1 _ (by omega)]
        congr 1; apply propext; omega
    have hrun : ceRun or and (mergeB (d + 1 + 1)) v
        = ceRun or and (layer (2 ^ (d + 1) - 1)) (ceRun or and (ren (fun s => 2 * s + 1) (mergeB (d + 1))) v1) := by
      rw [← hv1, ← ceRun_append, ← ceRun_append, ← List.append_assoc]; rfl
    rw [hrun]
    generalize ceRun or and (ren (fun s => 2 * s + 1) (mergeB (d + 1))) v1 = v2 at hev2 hod2
    obtain ⟨l1, l2, l3, l4⟩ := layer_run or and v2 (2 ^ (d + 1) - 1)
    have hE : ∀ s, s < 2 ^ (d + 1) → v2 (2 * s) = decide (s < (p + 1) / 2 + (q + 1) / 2) := fun s hs => by
      rw [hev2, hev s hs]
    rcases Nat.even_or_odd' t with ⟨s, rfl | rfl⟩
    · rcases Nat.eq_zero_or_pos s with rfl | hs
      · have := hE 0 (by omega)
        rw [Nat.mul_zero] at this ⊢
        rw [l3, this]; congr 1; apply propext; omega
      · obtain ⟨r, rfl⟩ : ∃ r, s = r + 1 := ⟨s - 1, by omega⟩
        rw [show 2 * (r + 1) = 2 * r + 2 by omega, l2 r (by omega), hod2 r (by omega),
          show 2 * r + 2 = 2 * (r + 1) by omega, hE (r + 1) (by omega), ← Bool.decide_and]
        congr 1; apply propext; omega
    · rcases Nat.lt_or_ge s (2 ^ (d + 1) - 1) with hs | hs
      · rw [l1 s hs, hod2 s (by omega), show 2 * s + 2 = 2 * (s + 1) by omega, hE (s + 1) (by omega), ← Bool.decide_or]
        congr 1; apply propext; omega
      · rw [l4 _ (by omega), hod2 s (by omega)]; congr 1; apply propext; omega

/-- On 0-1 inputs a sort leaves ones then zeros. -/
theorem sortB_sorts : ∀ (k : Nat) (v : Nat → Bool), ∃ c, c ≤ 2 ^ k ∧
    ∀ t, t < 2 ^ k → ceRun or and (sortB k) v t = decide (t < c)
  | 0, v => by
    cases h : v 0
    · refine ⟨0, by simp, fun t ht => ?_⟩
      obtain rfl : t = 0 := by simpa using ht
      simpa [sortB, ceRun] using h
    · refine ⟨1, by simp, fun t ht => ?_⟩
      obtain rfl : t = 0 := by simpa using ht
      simpa [sortB, ceRun] using h
  | k + 1, v => by
    have e1 : 2 ^ (k + 1) = 2 * 2 ^ k := by rw [pow_succ, Nat.mul_comm]
    obtain ⟨p, hp, h0⟩ := sortB_sorts k v
    obtain ⟨q, hq, h1⟩ := sortB_sorts k fun s => ceRun or and (sortB k) v (2 ^ k + s)
    refine ⟨p + q, by omega, ?_⟩
    have hrun : ceRun or and (sortB (k + 1)) v
        = ceRun or and (mergeB (k + 1)) (ceRun or and (ren (fun s => 2 ^ k + s) (sortB k)) (ceRun or and (sortB k) v)) := by
      rw [← ceRun_append, ← ceRun_append, ← List.append_assoc]; rfl
    rw [hrun]
    refine mergeB_sorts k _ p q hp hq (fun t ht => ?_) (fun t ht => ?_)
    · rw [ceRun_ren_off or and _ _ _ fun s => by omega, h0 t ht]
    · rw [ceRun_ren or and (g := fun s => 2 ^ k + s) (fun a b h => by simp only at h; omega), h1 t ht]

/-- The comparators of the sort on 128 wires that stay below wire 126. -/
def pruned : List (Nat × Nat) := (sortB 7).filter fun p => p.2 < 126

/-- Every comparator points up. -/
theorem sortB_up : ∀ p ∈ sortB 7, p.1 < p.2 := by decide +kernel

/-- With zeros on the wires from 126 on, the comparators there do nothing. -/
theorem filter_run : ∀ (l : List (Nat × Nat)) (v : Nat → Bool), (∀ p ∈ l, p.1 < p.2) → (∀ k, 126 ≤ k → v k = false) →
    ceRun or and (l.filter fun p => p.2 < 126) v = ceRun or and l v
  | [], _, _, _ => rfl
  | p :: l, v, h, hv => by
    have hp := h p List.mem_cons_self
    by_cases hb : p.2 < 126
    · rw [List.filter_cons_of_pos (by simpa using hb), ceRun_cons, ceRun_cons]
      refine filter_run l _ (fun q hq => h q (List.mem_cons_of_mem _ hq)) fun k hk => ?_
      simp only [ceStep]
      rw [if_neg (by omega), if_neg (by omega), hv k hk]
    · rw [List.filter_cons_of_neg (by simpa using hb), ceRun_cons]
      have : ceStep or and v p = v := by
        funext k
        simp only [ceStep]
        have h2 : v p.2 = false := hv _ (by omega)
        split
        · rename_i hk; rw [hk, h2, Bool.and_false]
        · split
          · rename_i hk; rw [hk, h2, Bool.or_false]
          · rfl
      rw [this]
      exact filter_run l v (fun q hq => h q (List.mem_cons_of_mem _ hq)) hv

/-- The pruned network sorts 0-1 inputs on 126 wires. -/
theorem pruned_sorts01 (v : Nat → Bool) (hv : ∀ k, 126 ≤ k → v k = false) (i : Nat) (hi : i + 1 < 126) :
    ceRun or and pruned v (i + 1) = true → ceRun or and pruned v i = true := by
  rw [pruned, filter_run _ v sortB_up hv]
  obtain ⟨c, _, h⟩ := sortB_sorts 7 v
  rw [h _ (by show _ < 128; omega), h _ (by show _ < 128; omega)]
  simp only [decide_eq_true_eq]
  omega

variable {α : Type u} [LinearOrder α]

/-- The pruned comparators stay below wire 126. -/
theorem pruned_lt : ∀ p ∈ pruned, p.1 < p.2 ∧ p.2 < 126 := by
  intro p hp
  have h := List.mem_filter.1 hp
  exact ⟨sortB_up p h.1, by simpa using h.2⟩

/-- The pruned network sorts, the largest first. -/
theorem pruned_sorts (v : Nat → α) (i : Nat) (hi : i + 1 < 126) :
    ceRun max min pruned v (i + 1) ≤ ceRun max min pruned v i := by
  by_contra hlt
  rw [not_le] at hlt
  generalize hc : ceRun max min pruned v i = c at hlt
  have key := ceRun_hom (mx' := or) (mn' := and) (fun x : α => decide (c < x)) (mx := max) (mn := min)
    (fun a b => by rw [← Bool.decide_or]; congr 1; exact propext lt_max_iff)
    (fun a b => by rw [← Bool.decide_and]; congr 1; exact propext lt_min_iff) pruned v
  have off : ∀ k, k < 126 → ceRun or and pruned (fun k => decide (c < v k)) k
      = ceRun or and pruned (fun k => if k < 126 then decide (c < v k) else false) k := by
    have : ∀ (l : List (Nat × Nat)) (a b : Nat → Bool), (∀ p ∈ l, p.1 < 126 ∧ p.2 < 126) → (∀ k, k < 126 → a k = b k) →
        ∀ k, k < 126 → ceRun or and l a k = ceRun or and l b k := by
      intro l
      induction l with
      | nil => intro a b _ h k hk; exact h k hk
      | cons p l ih =>
        intro a b hp h k hk
        rw [ceRun_cons, ceRun_cons]
        refine ih _ _ (fun q hq => hp q (List.mem_cons_of_mem _ hq)) (fun k hk => ?_) k hk
        have := hp p List.mem_cons_self
        simp only [ceStep, h _ this.1, h _ this.2, h k hk]
    refine this pruned _ _ (fun p hp => ?_) fun k hk => by simp [hk]
    have := pruned_lt p hp
    omega
  have s := pruned_sorts01 (fun k => if k < 126 then decide (c < v k) else false) (fun k hk => by simp; omega) i hi
  rw [← off _ hi, ← off _ (by omega), ← key] at s
  simp only [decide_eq_true_eq] at s
  have := s hlt
  rw [hc] at this
  exact lt_irrefl _ this

/-- A network's result is a rearrangement of its input. -/
theorem ceRun_perm (n : Nat) (l : List (Nat × Nat)) (hl : ∀ p ∈ l, p.1 < p.2 ∧ p.2 < n) :
    ∀ v : Nat → α, ∃ σ : Equiv.Perm (Fin n), ∀ i : Fin n, ceRun max min l v i.val = v (σ i).val := by
  induction l with
  | nil => intro v; exact ⟨Equiv.refl _, fun i => rfl⟩
  | cons p l ih =>
    intro v
    obtain ⟨σ, hσ⟩ := ih (fun q hq => hl q (List.mem_cons_of_mem _ hq)) (ceStep max min v p)
    obtain ⟨h1, h2⟩ := hl p List.mem_cons_self
    rcases le_total (v p.2) (v p.1) with h | h
    · refine ⟨σ, fun i => ?_⟩
      rw [ceRun_cons, hσ i]
      simp only [ceStep, max_eq_left h, min_eq_right h]
      split
      · rename_i e; rw [e]
      · split
        · rename_i e; rw [e]
        · rfl
    · let a : Fin n := ⟨p.1, by omega⟩
      let b : Fin n := ⟨p.2, h2⟩
      refine ⟨σ.trans (Equiv.swap a b), fun i => ?_⟩
      rw [ceRun_cons, hσ i]
      simp only [ceStep, max_eq_right h, min_eq_left h, Equiv.trans_apply]
      by_cases e2 : σ i = b
      · rw [e2, Equiv.swap_apply_right]; simp [a, b]
      · by_cases e1 : σ i = a
        · rw [e1, Equiv.swap_apply_left]
          have : ¬ p.1 = p.2 := by omega
          simp [a, b, this]
        · rw [Equiv.swap_apply_of_ne_of_ne e1 e2]
          rw [if_neg (fun e => e2 (Fin.ext e)), if_neg (fun e => e1 (Fin.ext e))]

end Cert.Network
-- ==== Proof.NetValue.lean ====
/- What the instruction list computes over the extended reals, at one element: the accumulators add up to
   the sum of the weights times the wires in descending order. -/
module

public import proofs.«01_k».proof.Proof.Network
public import proofs.«01_k».proof.Proof.Steps
public import Idealize.ShloMosaic.PureOps.Ideal
public import Idealize.ShloMosaic.PureOps.Ideal.Laws
public import Mathlib.Algebra.BigOperators.Fin

@[expose] public section

noncomputable section

namespace Cert.NetValue

open Idealize.ShloMosaic Cert.Compact Cert.Network

/-- The comparators of an instruction list. -/
def ces : List Instr → List (Nat × Nat)
  | [] => []
  | .ce i j :: l => (i, j) :: ces l
  | .put _ _ :: l => ces l
  | .add _ _ :: l => ces l

/-- The wires it multiplies, in order. -/
def uses : List Instr → List (Fin 126)
  | [] => []
  | .ce _ _ :: l => uses l
  | .put i _ :: l => i :: uses l
  | .add i _ :: l => i :: uses l

/-- No comparator of the list touches wire `i`. -/
def freeOf (i : Nat) : List Instr → Bool
  | [] => true
  | .ce a b :: l => !(Nat.beq a i) && (!(Nat.beq b i) && freeOf i l)
  | .put _ _ :: l => freeOf i l
  | .add _ _ :: l => freeOf i l

/-- The list is in order: comparators on two wires below 126, a wire is multiplied after its last comparator, an
    accumulator starts once, before it is added to. -/
def inOrder : List Nat → List Instr → Bool
  | _, [] => true
  | used, .ce i j :: l => decide (i < 126 ∧ j < 126) && inOrder used l
  | used, .put i k :: l => decide (k < 8 ∧ k ∉ used) && (freeOf i.val l && inOrder (k :: used) l)
  | used, .add i k :: l => decide (k < 8 ∧ k ∈ used) && (freeOf i.val l && inOrder used l)

/-- The network's comparators are the pruned sorting network's. -/
theorem ces_net : ces net = pruned := by decide +kernel

/-- The network is in order. -/
theorem inOrder_net : inOrder [] net = true := by decide +kernel

/-- Every wire is multiplied once. -/
theorem uses_net : (uses net).Perm (List.finRange 126) := by decide +kernel

variable (x2 : Vec Ideal S1x126 .f32) (j : S8x128.Idx)

/-- Register `k` at the element. -/
abbrev R (st : Tree (FVec Ideal S8x128 .f32) 8) (k : Nat) : EReal := Tree.rd 8 st k j

/-- A comparator acts on the registers as on the wires. -/
theorem R_ce (st : Tree (FVec Ideal S8x128 .f32) 8) (a b k : Nat) (ha : a < 126) (hb : b < 126) (hk : k < 256) :
    R j (instrV x2 st (.ce a b)) k = ceStep max min (R j st) (a, b) k := by
  unfold R
  dsimp only [instrV, ceStep]
  rw [Tree.rd_wr 8 _ _ _ _ (by omega) (by omega)]
  by_cases h : k = b
  · rw [if_pos h, if_pos h]; rfl
  · rw [if_neg h, if_neg h, Tree.rd_wr 8 _ _ _ _ (by omega) (by omega)]
    by_cases h' : k = a
    · rw [if_pos h', if_pos h']; rfl
    · rw [if_neg h', if_neg h']

/-- A first product starts accumulator `c` and leaves the other registers. -/
theorem R_put (st : Tree (FVec Ideal S8x128 .f32) 8) (i : Fin 126) (c k : Nat) (hc : c < 8) (hk : k < 256) :
    R j (instrV x2 st (.put i c)) k = if k = 128 + c then R j st i.val * wAt x2 i else R j st k := by
  unfold R
  dsimp only [instrV]
  rw [Tree.rd_wr 8 _ _ _ _ (by omega) (by omega)]
  by_cases h : k = 128 + c
  · rw [if_pos h, if_pos h]; rfl
  · rw [if_neg h, if_neg h]

/-- A later product is added to accumulator `c` and leaves the other registers. -/
theorem R_add (st : Tree (FVec Ideal S8x128 .f32) 8) (i : Fin 126) (c k : Nat) (hc : c < 8) (hk : k < 256) :
    R j (instrV x2 st (.add i c)) k = if k = 128 + c then R j st (128 + c) + R j st i.val * wAt x2 i else R j st k := by
  unfold R
  dsimp only [instrV]
  rw [Tree.rd_wr 8 _ _ _ _ (by omega) (by omega)]
  by_cases h : k = 128 + c
  · rw [if_pos h, if_pos h]; rfl
  · rw [if_neg h, if_neg h]

/-- The first instruction runs first. -/
theorem netV_cons (a : Instr) (l : List Instr) (st : Tree (FVec Ideal S8x128 .f32) 8) :
    netV x2 (a :: l) st = netV x2 l (instrV x2 st a) := rfl

/-- The wires run through the comparators. -/
theorem wires_run : ∀ (l : List Instr) (used : List Nat) (st : Tree (FVec Ideal S8x128 .f32) 8) (v : Nat → EReal),
    inOrder used l = true → (∀ k, k < 126 → R j st k = v k) →
    ∀ k, k < 126 → R j (netV x2 l st) k = ceRun max min (ces l) v k
  | [], _, _, _, _, hv, k, hk => hv k hk
  | .ce a b :: l, used, st, v, ho, hv, k, hk => by
    simp only [inOrder, Bool.and_eq_true, decide_eq_true_eq] at ho
    rw [netV_cons, ces, ceRun_cons]
    refine wires_run l used _ _ ho.2 (fun k hk => ?_) k hk
    rw [R_ce x2 j st a b k ho.1.1 ho.1.2 (by omega)]
    dsimp only [ceStep]
    rw [hv a ho.1.1, hv b ho.1.2, hv k hk]
  | .put i c :: l, used, st, v, ho, hv, k, hk => by
    simp only [inOrder, Bool.and_eq_true, decide_eq_true_eq] at ho
    rw [netV_cons, ces]
    refine wires_run l _ _ _ ho.2.2 (fun k hk => ?_) k hk
    rw [R_put x2 j st i c k ho.1.1 (by omega), if_neg (by omega), hv k hk]
  | .add i c :: l, used, st, v, ho, hv, k, hk => by
    simp only [inOrder, Bool.and_eq_true, decide_eq_true_eq] at ho
    rw [netV_cons, ces]
    refine wires_run l _ _ _ ho.2.2 (fun k hk => ?_) k hk
    rw [R_add x2 j st i c k ho.1.1 (by omega), if_neg (by omega), hv k hk]

/-- A wire no comparator touches keeps its value. -/
theorem free_run : ∀ (l : List Instr) (used : List Nat) (st : Tree (FVec Ideal S8x128 .f32) 8) (i : Nat), i < 126 →
    inOrder used l = true → freeOf i l = true → R j (netV x2 l st) i = R j st i
  | [], _, _, _, _, _, _ => rfl
  | .ce a b :: l, used, st, i, hi, ho, hf => by
    simp only [inOrder, Bool.and_eq_true, decide_eq_true_eq] at ho
    simp only [freeOf, Bool.and_eq_true, Bool.not_eq_true'] at hf
    have ne : ∀ x : Nat, Nat.beq x i = false → i ≠ x := fun x h e => by
      rw [e, Nat.beq_refl] at h; exact Bool.noConfusion h
    rw [netV_cons, free_run l used _ i hi ho.2 hf.2.2, R_ce x2 j st a b i ho.1.1 ho.1.2 (by omega)]
    dsimp only [ceStep]
    rw [if_neg (ne b hf.2.1), if_neg (ne a hf.1)]
  | .put i' c :: l, used, st, i, hi, ho, hf => by
    simp only [inOrder, Bool.and_eq_true, decide_eq_true_eq] at ho
    rw [netV_cons, free_run l _ _ i hi ho.2.2 hf, R_put x2 j st i' c i ho.1.1 (by omega), if_neg (by omega)]
  | .add i' c :: l, used, st, i, hi, ho, hf => by
    simp only [inOrder, Bool.and_eq_true, decide_eq_true_eq] at ho
    rw [netV_cons, free_run l _ _ i hi ho.2.2 hf, R_add x2 j st i' c i ho.1.1 (by omega), if_neg (by omega)]

/-- The accumulators' sum. -/
def total (st : Tree (FVec Ideal S8x128 .f32) 8) : EReal := ∑ k : Fin 8, R j st (128 + k.val)

/-- One product more in one accumulator is one product more in the sum. -/
theorem total_step (st st' : Tree (FVec Ideal S8x128 .f32) 8) (c : Nat) (hc : c < 8) (y : EReal)
    (h : ∀ k, k < 8 → R j st' (128 + k) = R j st (128 + k) + if k = c then y else 0) : total j st' = total j st + y := by
  unfold total
  rw [Finset.sum_congr rfl fun (k : Fin 8) _ => h k.val k.isLt, Finset.sum_add_distrib]
  congr 1
  rw [Finset.sum_eq_single (⟨c, hc⟩ : Fin 8)]
  · exact if_pos rfl
  · intro b _ hb
    exact if_neg fun e => hb (Fin.ext e)
  · intro h; exact absurd (Finset.mem_univ _) h

/-- The accumulators gain the products of the multiplied wires. -/
theorem total_run : ∀ (l : List Instr) (used : List Nat) (st : Tree (FVec Ideal S8x128 .f32) 8),
    inOrder used l = true → (∀ k, k < 8 → k ∉ used → R j st (128 + k) = 0) →
    total j (netV x2 l st) = total j st + ((uses l).map fun i => R j (netV x2 l st) i.val * wAt x2 i).sum
  | [], _, st, _, _ => (add_zero (total j st)).symm
  | .ce a b :: l, used, st, ho, h0 => by
    simp only [inOrder, Bool.and_eq_true, decide_eq_true_eq] at ho
    have hR : ∀ k, k < 8 → R j (instrV x2 st (.ce a b)) (128 + k) = R j st (128 + k) := fun k hk => by
      rw [R_ce x2 j st a b _ ho.1.1 ho.1.2 (by omega)]
      dsimp only [ceStep]
      rw [if_neg (by omega), if_neg (by omega)]
    rw [netV_cons, total_run l used _ ho.2 fun k hk hu => (hR k hk).trans (h0 k hk hu), uses]
    congr 1
    exact Finset.sum_congr rfl fun (k : Fin 8) _ => hR k.val k.isLt
  | .put i c :: l, used, st, ho, h0 => by
    simp only [inOrder, Bool.and_eq_true, decide_eq_true_eq] at ho
    have hR : ∀ k, k < 8 → R j (instrV x2 st (.put i c)) (128 + k)
        = R j st (128 + k) + if k = c then R j st i.val * wAt x2 i else 0 := fun k hk => by
      rw [R_put x2 j st i c _ ho.1.1 (by omega)]
      by_cases h : k = c
      · subst h
        rw [if_pos rfl, if_pos rfl, h0 k hk ho.1.2, zero_add]
      · rw [if_neg (by omega), if_neg h, add_zero]
    have hi : R j (netV x2 l (instrV x2 st (.put i c))) i.val = R j st i.val := by
      rw [free_run x2 j l _ _ i.val i.isLt ho.2.2 ho.2.1, R_put x2 j st i c _ ho.1.1 (by omega), if_neg (by omega)]
    rw [netV_cons, total_run l (c :: used) _ ho.2.2 (fun k hk hu => ?_), uses, List.map_cons, List.sum_cons, hi,
      total_step j st _ c ho.1.1 _ hR, add_assoc]
    rw [List.mem_cons, not_or] at hu
    rw [hR k hk, if_neg hu.1, h0 k hk hu.2, add_zero]
  | .add i c :: l, used, st, ho, h0 => by
    simp only [inOrder, Bool.and_eq_true, decide_eq_true_eq] at ho
    have hR : ∀ k, k < 8 → R j (instrV x2 st (.add i c)) (128 + k)
        = R j st (128 + k) + if k = c then R j st i.val * wAt x2 i else 0 := fun k hk => by
      rw [R_add x2 j st i c _ ho.1.1 (by omega)]
      by_cases h : k = c
      · subst h
        rw [if_pos rfl, if_pos rfl]
      · rw [if_neg (by omega), if_neg h, add_zero]
    have hi : R j (netV x2 l (instrV x2 st (.add i c))) i.val = R j st i.val := by
      rw [free_run x2 j l _ _ i.val i.isLt ho.2.2 ho.2.1, R_add x2 j st i c _ ho.1.1 (by omega), if_neg (by omega)]
    rw [netV_cons, total_run l used _ ho.2.2 (fun k hk hu => ?_), uses, List.map_cons, List.sum_cons, hi,
      total_step j st _ c ho.1.1 _ hR, add_assoc]
    rw [hR k hk, if_neg (fun e : k = c => hu (e ▸ ho.1.2)), h0 k hk hu, add_zero]

/-- A constant tree holds its value everywhere. -/
theorem rd_const {α : Type} (a : α) : ∀ (n i : Nat), Tree.rd n (Tree.const a n) i = a
  | 0, _ => rfl
  | n + 1, i => by
    by_cases h : i % 2 = 0
    · exact (Tree.rd_even n _ _ i h).trans (rd_const a n _)
    · exact (Tree.rd_odd n _ _ i h).trans (rd_const a n _)

/-- The filled registers: the list's wires hold theirs, the others what they held. -/
theorem R_fill (x : FVec Ideal S126x8x128 .f32) : ∀ (l : List (Fin 126)) (st : Tree (FVec Ideal S8x128 .f32) 8),
    (∀ k, k < 256 → (∀ i ∈ l, k ≠ i.val) → R j (fillV x l st) k = R j st k)
    ∧ (∀ i ∈ l, R j (fillV x l st) i.val = wire x i j)
  | [], st => ⟨fun _ _ _ => rfl, fun i hi => absurd hi List.not_mem_nil⟩
  | a :: l, st => by
    have ha := a.isLt
    obtain ⟨h1, h2⟩ := R_fill x l (Tree.wr 8 st a.val (wire x a))
    have hw : ∀ k, k < 256 → R j (Tree.wr 8 st a.val (wire x a)) k = if k = a.val then wire x a j else R j st k := fun k hk => by
      unfold R
      rw [Tree.rd_wr 8 _ _ _ _ (by omega) (by omega)]
      by_cases h : k = a.val
      · rw [if_pos h, if_pos h]
      · rw [if_neg h, if_neg h]
    refine ⟨fun k hk hn => ?_, fun i hi => ?_⟩
    · show R j (fillV x l (Tree.wr 8 st a.val (wire x a))) k = _
      rw [h1 k hk fun i hi => hn i (List.mem_cons_of_mem _ hi), hw k hk, if_neg (hn a List.mem_cons_self)]
    · show R j (fillV x l (Tree.wr 8 st a.val (wire x a))) i.val = _
      by_cases h : i ∈ l
      · exact h2 i h
      · have e : i = a := (List.mem_cons.1 hi).resolve_right h
        subst e
        rw [h1 i.val (by omega) fun i' hi' e => h (Fin.ext e ▸ hi'), hw i.val (by omega), if_pos rfl]

/-- The registers with the constant zero everywhere, then the wires. -/
abbrev start (x : FVec Ideal S126x8x128 .f32) : Tree (FVec Ideal S8x128 .f32) 8 :=
  fillV x wires (Tree.const (broadcast S8x128 (Scalar.ofBits .f32 0x00000000#32)) 8)

/-- The zero pattern is zero. -/
theorem zero_bits : (Scalar.ofBits .f32 0x00000000#32 : Ideal .f32) = (0 : EReal) := by
  show Ideal.ofBits .f32 0x00000000#32 = (0 : EReal)
  exact Ideal.ofBits_zero_f32

/-- The wires in descending order: the accumulators add up to the weighted sum of some rearrangement of the wires
    that does not increase. -/
theorem net_value (x : FVec Ideal S126x8x128 .f32) : ∃ σ : Equiv.Perm (Fin 126),
    (∀ a b : Fin 126, a ≤ b → wire x (σ b) j ≤ wire x (σ a) j)
    ∧ total j (netV x2 net (start x)) = ∑ i : Fin 126, wire x (σ i) j * wAt x2 i := by
  have hfill := R_fill j x wires (Tree.const (broadcast S8x128 (Scalar.ofBits .f32 0x00000000#32)) 8)
  have hst : ∀ k, k < 126 → R j (start x) k = R j (start x) k := fun _ _ => rfl
  have hrun := wires_run x2 j net [] (start x) (R j (start x)) inOrder_net hst
  rw [ces_net] at hrun
  obtain ⟨σ, hσ⟩ := ceRun_perm 126 pruned pruned_lt (R j (start x))
  have hwire : ∀ i : Fin 126, R j (start x) i.val = wire x i j := fun i => hfill.2 i (List.mem_finRange i)
  have hy : ∀ i : Fin 126, R j (netV x2 net (start x)) i.val = wire x (σ i) j := fun i => by
    rw [hrun i.val i.isLt, hσ i, hwire]
  refine ⟨σ, ?_, ?_⟩
  · have key : ∀ d a : Nat, a + d < 126 → ceRun max min pruned (R j (start x)) (a + d) ≤ ceRun max min pruned (R j (start x)) a := by
      intro d
      induction d with
      | zero => intro a _; exact le_refl _
      | succ d ih => intro a h; exact (pruned_sorts _ (a + d) h).trans (ih a (by omega))
    intro a b hab
    rw [← hy a, ← hy b, hrun _ a.isLt, hrun _ b.isLt]
    have := key (b.val - a.val) a.val (by have := b.isLt; have : a.val ≤ b.val := hab; omega)
    rwa [Nat.add_sub_cancel' (show a.val ≤ b.val from hab)] at this
  · have hz : ∀ k, k < 8 → R j (start x) (128 + k) = 0 := fun k hk => by
      rw [hfill.1 (128 + k) (by omega) fun i _ => by have := i.isLt; omega]
      unfold R
      rw [rd_const]
      exact zero_bits
    rw [total_run x2 j net [] (start x) inOrder_net fun k hk _ => hz k hk]
    have h0 : total j (start x) = 0 := Finset.sum_eq_zero fun (k : Fin 8) _ => hz k.val k.isLt
    rw [h0, zero_add, ((uses_net.map _).sum_eq), ← List.ofFn_eq_map, List.sum_ofFn]
    exact Finset.sum_congr rfl fun i _ => by rw [hy i]

end Cert.NetValue

end
-- ==== Proof.Ranked.lean ====
/- A weighted sum of 126 numbers taken in descending order, as a relation: which sums are such a sum, and that there is
   only one. A minimum as a relation: what lies below it. -/
module

public import Mathlib.Data.List.Sort
public import Mathlib.Data.List.FinRange
public import Mathlib.Data.EReal.Operations
public import Mathlib.Algebra.BigOperators.Fin

@[expose] public section

noncomputable section

namespace Cert.Ranked

/-- Two rearrangements of one family that do not increase are the same. -/
theorem descending_unique {n : Nat} {α : Type} [LinearOrder α] (f : Fin n → α) (σ τ : Equiv.Perm (Fin n))
    (hs : ∀ a b : Fin n, a ≤ b → f (σ b) ≤ f (σ a)) (ht : ∀ a b : Fin n, a ≤ b → f (τ b) ≤ f (τ a)) (i : Fin n) :
    f (σ i) = f (τ i) := by
  have hp : (List.ofFn fun i => f (σ i)).Perm (List.ofFn fun i => f (τ i)) :=
    (σ.ofFn_comp_perm f).trans (τ.ofFn_comp_perm f).symm
  have he := hp.eq_of_pairwise (le := fun x y => y ≤ x) (fun _ _ _ _ h h' => le_antisymm h' h)
    (List.pairwise_ofFn.2 fun a b h => hs a b h.le) (List.pairwise_ofFn.2 fun a b h => ht a b h.le)
  exact congrFun (List.ofFn_injective he) i

/-- `s` is the sum of the weights `w` times the numbers `f` in descending order. -/
def IsRankSum (f w : Fin 126 → EReal) (s : EReal) : Prop :=
  ∃ σ : Equiv.Perm (Fin 126), (∀ a b : Fin 126, a ≤ b → f (σ b) ≤ f (σ a)) ∧ s = ∑ i : Fin 126, f (σ i) * w i

/-- There is one such sum. -/
theorem IsRankSum.unique {f w : Fin 126 → EReal} {s s' : EReal} (h : IsRankSum f w s) (h' : IsRankSum f w s') : s = s' := by
  obtain ⟨σ, hσ, rfl⟩ := h
  obtain ⟨τ, hτ, rfl⟩ := h'
  exact Finset.sum_congr rfl fun i _ => by rw [descending_unique f σ τ hσ hτ i]

/-- `z` is the smallest, over the times `t`, of `big` where the mask is zero and of the ranked sum plus the bias where it
    is not. -/
def IsResult {T : Type} (big : EReal) (f : T → Fin 126 → EReal) (mask : T → EReal) (w : Fin 126 → EReal) (b z : EReal) : Prop :=
  ∃ s : T → EReal, (∀ t, IsRankSum (f t) w (s t)) ∧ ∀ c, c ≤ z ↔ ∀ t, c ≤ if mask t = 0 then big else s t + b

/-- There is one such value. -/
theorem IsResult.unique {T : Type} {big : EReal} {f : T → Fin 126 → EReal} {mask : T → EReal} {w : Fin 126 → EReal} {b z z' : EReal}
    (h : IsResult big f mask w b z) (h' : IsResult big f mask w b z') : z = z' := by
  obtain ⟨s, hs, hz⟩ := h
  obtain ⟨s', hs', hz'⟩ := h'
  have e : s = s' := funext fun t => (hs t).unique (hs' t)
  subst e
  exact eq_of_forall_le_iff fun c => (hz c).trans (hz' c).symm

end Cert.Ranked

end
-- ==== Proof.StepValue.lean ====
/- One time step and one block of time steps, read at an element over the extended reals. -/
module

public import proofs.«01_k».proof.Proof.NetValue
public import proofs.«01_k».proof.Proof.Ranked
public import Idealize.ShloMosaic.Lib.Pipeline.Value
public import Idealize.ShloMosaic.Lib.ValueIdx

@[expose] public section

set_option maxRecDepth 16384

noncomputable section

namespace Cert.StepValue

open Idealize.ShloMosaic Idealize.ShloMosaic.ValueIdx Cert.Compact Cert.NetValue Cert.Ranked

/-- Wire `i` of time step `t` at row `r`, lane `l` is the block's entry there. -/
theorem wire_apply (x0 : Vec Ideal S25x1x8x128x126 .f32) (t : Fin 25) (i : Fin 126) (r : Fin 8) (l : Fin 128) :
    wire (xAt x0 t) i (ix2 r l) = x0 (ix5 t 0 r l i) := by
  unfold wire xAt
  rw [shapeCast_apply _ _ (ix2 r l) (ix3 (0 : Fin 1) r l) (by
      rw [Shape.rowMajor_val_three, Shape.rowMajor_val_two]
      show (0 * 8 + r.val) * 128 + l.val = r.val * 128 + l.val
      omega),
    extractStridedSlice_apply _ _ _ (ix3 (0 : Fin 1) r l) (ix3 i r l) (fun a => by
      match a with
      | ⟨0, _⟩ => rfl
      | ⟨1, _⟩ => exact (Nat.zero_add _).symm
      | ⟨2, _⟩ => exact (Nat.zero_add _).symm),
    transpose_apply _ _ _ (ix3 i r l) (ix3 r l i) (fun b => by
      match b with
      | ⟨0, _⟩ => rfl
      | ⟨1, _⟩ => rfl
      | ⟨2, _⟩ => rfl),
    shapeCast_apply _ _ (ix3 r l i) (ix5 (0 : Fin 1) (0 : Fin 1) r l i) (by
      rw [Shape.rowMajor_val_five, Shape.rowMajor_val_three]
      show (((0 * 1 + 0) * 8 + r.val) * 128 + l.val) * 126 + i.val = (r.val * 128 + l.val) * 126 + i.val
      omega)]
  refine congrArg x0 (funext fun a => Fin.ext ?_)
  match a with
  | ⟨0, _⟩ => rfl
  | ⟨1, _⟩ => rfl
  | ⟨2, _⟩ => show 0 + 1 * r.val = r.val; omega
  | ⟨3, _⟩ => show 0 + 1 * l.val = l.val; omega
  | ⟨4, _⟩ => show 0 + 1 * i.val = i.val; omega

/-- The mask of time step `t` there. -/
theorem mask_apply (x1 : Vec Ideal S25x1x8x128 .f32) (t : Fin 25) (r : Fin 8) (l : Fin 128) :
    mAt x1 t (ix2 r l) = x1 (ix4 t 0 r l) := by
  unfold mAt
  rw [shapeCast_apply _ _ (ix2 r l) (ix4 (0 : Fin 1) (0 : Fin 1) r l) (by
      rw [Shape.rowMajor_val_four, Shape.rowMajor_val_two]
      show ((0 * 1 + 0) * 8 + r.val) * 128 + l.val = r.val * 128 + l.val
      omega)]
  refine congrArg x1 (funext fun a => Fin.ext ?_)
  match a with
  | ⟨0, _⟩ => rfl
  | ⟨1, _⟩ => rfl
  | ⟨2, _⟩ => show 0 + 1 * r.val = r.val; omega
  | ⟨3, _⟩ => show 0 + 1 * l.val = l.val; omega

/-- Weight `i`. -/
theorem weight_apply (x2 : Vec Ideal S1x126 .f32) (i : Fin 126) : wAt x2 i = x2 (ix2 0 i) := by
  unfold wAt
  refine congrArg x2 (funext fun a => Fin.ext ?_)
  match a with
  | ⟨0, _⟩ => rfl
  | ⟨1, _⟩ => rfl

/-- The bias. -/
theorem bias_apply (x3 : Vec Ideal S1 .f32) : bAt x3 = x3 (ix1 0) := by
  unfold bAt
  refine congrArg x3 (funext fun a => Fin.ext ?_)
  match a with
  | ⟨0, _⟩ => rfl

/-- The value put where the mask is zero. -/
def big : EReal := Ideal.ofBits .f32 0x49742400#32

/-- A step's value at an element: `big` where the mask is zero, and the accumulators' sum plus the bias where it is not. -/
theorem step_apply (x0 : Vec Ideal S25x1x8x128x126 .f32) (x1 : Vec Ideal S25x1x8x128 .f32) (x2 : Vec Ideal S1x126 .f32)
    (x3 : Vec Ideal S1 .f32) (t : Fin 25) (j : S8x128.Idx) :
    stepV x0 x1 x2 x3 t j = if mAt x1 t j = 0 then big else total j (netV x2 net (start (xAt x0 t))) + bAt x3 := by
  have hs : total j (netV x2 net (start (xAt x0 t))) + bAt x3 =
      addf (addf (addf (addf (addf (addf (addf (addf (Tree.rd 8 (regsV x0 x2 t) 128) (Tree.rd 8 (regsV x0 x2 t) 129))
      (Tree.rd 8 (regsV x0 x2 t) 130)) (Tree.rd 8 (regsV x0 x2 t) 131)) (Tree.rd 8 (regsV x0 x2 t) 132))
      (Tree.rd 8 (regsV x0 x2 t) 133)) (Tree.rd 8 (regsV x0 x2 t) 134)) (Tree.rd 8 (regsV x0 x2 t) 135))
      (broadcast S8x128 (bAt x3)) j := by
    rw [total, Fin.sum_univ_eight]
    unfold regsV
    generalize netV x2 net _ = st
    rfl
  rw [hs]
  unfold stepV
  generalize addf (addf _ _) (broadcast S8x128 (bAt x3)) = y
  show Scalar.select (Ideal.cmp .oeq (mAt x1 t j) (Ideal.ofBits .f32 0x00000000#32)) big (y j) = _
  rw [Ideal.ofBits_zero_f32]
  unfold Ideal.cmp Scalar.select
  by_cases h : mAt x1 t j = 0
  · simp [h]
  · simp [h]

/-- A lower bound of a minimum over a list is a lower bound of every term. -/
theorem le_rest (x0 : Vec Ideal S25x1x8x128x126 .f32) (x1 : Vec Ideal S25x1x8x128 .f32) (x2 : Vec Ideal S1x126 .f32)
    (x3 : Vec Ideal S1 .f32) (j : S8x128.Idx) (c : EReal) (l : List (Fin 25)) : ∀ r : FVec Ideal S8x128 .f32,
    c ≤ restV x0 x1 x2 x3 l r j ↔ c ≤ r j ∧ ∀ t ∈ l, c ≤ stepV x0 x1 x2 x3 t j := by
  unfold restV
  induction l with
  | nil => intro r; simp
  | cons t l ih =>
    intro r
    rw [List.foldl_cons, ih]
    have e : c ≤ minimumf r (stepV x0 x1 x2 x3 t) j ↔ c ≤ r j ∧ c ≤ stepV x0 x1 x2 x3 t j := le_min_iff
    rw [e, List.forall_mem_cons, and_assoc]

/-- Every time step is the first one or a later one. -/
theorem steps_all : ∀ t : Fin 25, t = 0 ∨ t ∈ laterSteps := by decide

/-- A lower bound of a block's minimum is a lower bound of every step's value. -/
theorem le_block (x0 : Vec Ideal S25x1x8x128x126 .f32) (x1 : Vec Ideal S25x1x8x128 .f32) (x2 : Vec Ideal S1x126 .f32)
    (x3 : Vec Ideal S1 .f32) (j : S8x128.Idx) (c : EReal) :
    c ≤ blockV x0 x1 x2 x3 j ↔ ∀ t : Fin 25, c ≤ stepV x0 x1 x2 x3 t j := by
  unfold blockV
  rw [le_rest]
  refine ⟨fun h t => ?_, fun h => ⟨h 0, fun t _ => h t⟩⟩
  rcases steps_all t with rfl | ht
  · exact h.1
  · exact h.2 t ht

/-- The ranked sum of step `t` at an element. -/
def sumAt (x0 : Vec Ideal S25x1x8x128x126 .f32) (x2 : Vec Ideal S1x126 .f32) (t : Fin 25) (r : Fin 8) (l : Fin 128) : EReal :=
  total (ix2 r l) (netV x2 net (start (xAt x0 t)))

/-- It is one. -/
theorem sumAt_rank (x0 : Vec Ideal S25x1x8x128x126 .f32) (x2 : Vec Ideal S1x126 .f32) (t : Fin 25) (r : Fin 8) (l : Fin 128) :
    IsRankSum (fun i => x0 (ix5 t 0 r l i)) (fun i => x2 (ix2 0 i)) (sumAt x0 x2 t r l) := by
  obtain ⟨σ, h, e⟩ := net_value x2 (ix2 r l) (xAt x0 t)
  refine ⟨σ, fun a b hab => ?_, ?_⟩
  · have := h a b hab
    rwa [wire_apply, wire_apply] at this
  · unfold sumAt
    rw [e]
    exact Finset.sum_congr rfl fun i _ => by rw [wire_apply, weight_apply]

/-- The block's minimum at an element, by its lower bounds. -/
theorem le_block_at (x0 : Vec Ideal S25x1x8x128x126 .f32) (x1 : Vec Ideal S25x1x8x128 .f32) (x2 : Vec Ideal S1x126 .f32)
    (x3 : Vec Ideal S1 .f32) (r : Fin 8) (l : Fin 128) (c : EReal) :
    c ≤ blockV x0 x1 x2 x3 (ix2 r l) ↔
      ∀ t : Fin 25, c ≤ if x1 (ix4 t 0 r l) = 0 then big else sumAt x0 x2 t r l + x3 (ix1 0) := by
  rw [le_block]
  refine forall_congr' fun t => ?_
  rw [step_apply, mask_apply, bias_apply]
  rfl

/-- What the first grid point leaves, by its lower bounds. -/
theorem le_outA (x0 : Vec Ideal S25x1x8x128x126 .f32) (x1 : Vec Ideal S25x1x8x128 .f32) (x2 : Vec Ideal S1x126 .f32)
    (x3 : Vec Ideal S1 .f32) (r : Fin 8) (l : Fin 128) (c : EReal) :
    c ≤ outA x0 x1 x2 x3 (ix3 0 r l) ↔
      ∀ t : Fin 25, c ≤ if x1 (ix4 t 0 r l) = 0 then big else sumAt x0 x2 t r l + x3 (ix1 0) := by
  unfold outA
  rw [shapeCast_apply _ _ (ix3 0 r l) (ix2 r l) (by
      rw [Shape.rowMajor_val_three, Shape.rowMajor_val_two]
      show r.val * 128 + l.val = (0 * 8 + r.val) * 128 + l.val
      omega)]
  exact le_block_at x0 x1 x2 x3 r l c

/-- What a later grid point leaves, by its lower bounds. -/
theorem le_outB (x0 : Vec Ideal S25x1x8x128x126 .f32) (x1 : Vec Ideal S25x1x8x128 .f32) (x2 : Vec Ideal S1x126 .f32)
    (x3 : Vec Ideal S1 .f32) (xo : Vec Ideal S1x8x128 .f32) (r : Fin 8) (l : Fin 128) (c : EReal) :
    c ≤ outB x0 x1 x2 x3 xo (ix3 0 r l) ↔ c ≤ xo (ix3 0 r l) ∧
      ∀ t : Fin 25, c ≤ if x1 (ix4 t 0 r l) = 0 then big else sumAt x0 x2 t r l + x3 (ix1 0) := by
  unfold outB
  rw [shapeCast_apply _ _ (ix3 0 r l) (ix2 r l) (by
      rw [Shape.rowMajor_val_three, Shape.rowMajor_val_two]
      show r.val * 128 + l.val = (0 * 8 + r.val) * 128 + l.val
      omega)]
  have e : shapeCast S8x128 xo sc_w (ix2 r l) = xo (ix3 0 r l) :=
    shapeCast_apply _ _ (ix2 r l) (ix3 0 r l) (by
      rw [Shape.rowMajor_val_three, Shape.rowMajor_val_two]
      show (0 * 8 + r.val) * 128 + l.val = r.val * 128 + l.val
      omega)
  have e2 : c ≤ minimumf (shapeCast S8x128 xo sc_w) (blockV x0 x1 x2 x3) (ix2 r l) ↔
      c ≤ shapeCast S8x128 xo sc_w (ix2 r l) ∧ c ≤ blockV x0 x1 x2 x3 (ix2 r l) := le_min_iff
  rw [e2, e, le_block_at]

end Cert.StepValue

end
-- ==== Proof.KernelValue.lean ====
/- What the kernel's result holds: at each column the bound of `IsResult`, over all two hundred positions. -/
module

public import proofs.«01_k».proof.Proof.LaunchIdeal
public import proofs.«01_k».proof.Proof.StepValue
public import proofs.«01_k».proof.Proof.Ranked
public import Idealize.ShloMosaic.Lib.Pipeline.ValueKit
public import Idealize.ShloMosaic.Lib.ValueIdx

@[expose] public section

set_option maxRecDepth 16384

noncomputable section

namespace Cert.KernelValue

open Idealize.SL.Sem
open Idealize.ShloMosaic hiding ix1 ix2 ix3 ix4 ix5
open Idealize.ShloMosaic.TcCoe Idealize.ShloMosaic.ValueIdx
open Idealize.ShloMosaic.Pipeline (Dat)
open Cert.KernelIdeal Cert.KernelIdeal.Gen Cert.KernelIdeal.Launch
open Cert.Ranked Cert.StepValue

variable (m : (ℓ : Loc nD τ sig) → Buf (Elt Ideal) ℓ) (c : Dev nD)

/-- The scores, as launched. -/
abbrev X0 : Vec Ideal S200x1024x126 .f32 := m ((c.tc : Thread nD τ).loc main_arg0)
/-- The masks, as launched. -/
abbrev X1 : Vec Ideal S200x1024 .f32 := m ((c.tc : Thread nD τ).loc main_arg1)
/-- The weights, as launched. -/
abbrev X4 : Vec Ideal S1x126 .f32 := m ((c.tc : Thread nD τ).loc main_arg4)
/-- The bias, as launched. -/
abbrev X5 : Vec Ideal S1 .f32 := m ((c.tc : Thread nD τ).loc main_arg5)

/-- Every window's block index at each point, decided over the grid. -/
theorem idx : ∀ t : Fin cfg0.N, win0_0.index t = ![t.val, 0, 0, 0, 0] ∧ win0_1.index t = ![t.val, 0, 0, 0]
    ∧ win0_2.index t = ![0, 0] ∧ win0_3.index t = ![0] ∧ win0_4.index t = ![0, 0, 0] :=
  (by decide +kernel : ∀ t : Fin grid0.N, win0_0.index t = ![t.val, 0, 0, 0, 0] ∧ win0_1.index t = ![t.val, 0, 0, 0]
    ∧ win0_2.index t = ![0, 0] ∧ win0_3.index t = ![0] ∧ win0_4.index t = ![0, 0, 0])

/-- The reshaped scores the first window reads. -/
theorem V_main_v0 : V m c main_v0 = shapeCast S200x1x8x128x126 (X0 m c) shapeCasts_S200x1024x126_S200x1x8x128x126 := by
  unfold V V0
  simp only [hostOps0, List.flatten_cons, List.flatten_nil, List.append_nil, List.cons_append, List.nil_append]
  after_results_simp
  try rfl

/-- The reshaped masks the second window reads. -/
theorem V_main_v1 : V m c main_v1 = shapeCast S200x1x8x128 (X1 m c) shapeCasts_S200x1024_S200x1x8x128 := by
  unfold V V0
  simp only [hostOps0, List.flatten_cons, List.flatten_nil, List.append_nil, List.cons_append, List.nil_append]
  after_results_simp
  try rfl

/-- The position and the column a block's element stands at. -/
theorem pos_lt (n : ℕ) (hn : n < cfg0.N) (t : Fin 25) : 25 * n + t.val < 200 := by
  have : n < 8 := Nat.lt_of_lt_of_eq hn N_0
  omega

/-- The column of row `r`, lane `l`. -/
theorem col_lt (r : Fin 8) (l : Fin 128) : 128 * r.val + l.val < 1024 := by omega

/-- The first window's block at a point: twenty-five positions of the scores. -/
theorem iblk0 (n : ℕ) (hn : n < cfg0.N) (t : Fin 25) (r : Fin 8) (l : Fin 128) (i : Fin 126) :
    iblk m c 0 ⟨n, hn⟩ (ix5 t 0 r l i) = X0 m c (ix3 ⟨25 * n + t.val, pos_lt n hn t⟩ ⟨128 * r.val + l.val, col_lt r l⟩ i) := by
  have e : iblk m c 0 ⟨n, hn⟩ (ix5 t 0 r l i) = V m c main_v0 (ix5 ⟨25 * n + t.val, pos_lt n hn t⟩ 0 r l i) := by
    blk_ext [iblk, idx ⟨n, hn⟩]
    show n * 25 + t.val = 25 * n + t.val
    omega
  rw [e, V_main_v0]
  exact shapeCast_apply _ _ _ _ (by
    rw [Shape.rowMajor_val_five, Shape.rowMajor_val_three]
    show ((25 * n + t.val) * 1024 + (128 * r.val + l.val)) * 126 + i.val
      = ((((25 * n + t.val) * 1 + 0) * 8 + r.val) * 128 + l.val) * 126 + i.val
    omega)

/-- The second window's block at a point: twenty-five positions of the masks. -/
theorem iblk1 (n : ℕ) (hn : n < cfg0.N) (t : Fin 25) (r : Fin 8) (l : Fin 128) :
    iblk m c 1 ⟨n, hn⟩ (ix4 t 0 r l) = X1 m c (ix2 ⟨25 * n + t.val, pos_lt n hn t⟩ ⟨128 * r.val + l.val, col_lt r l⟩) := by
  have e : iblk m c 1 ⟨n, hn⟩ (ix4 t 0 r l) = V m c main_v1 (ix4 ⟨25 * n + t.val, pos_lt n hn t⟩ 0 r l) := by
    blk_ext [iblk, idx ⟨n, hn⟩]
    show n * 25 + t.val = 25 * n + t.val
    omega
  rw [e, V_main_v1]
  exact shapeCast_apply _ _ _ _ (by
    rw [Shape.rowMajor_val_four, Shape.rowMajor_val_two]
    show (25 * n + t.val) * 1024 + (128 * r.val + l.val)
      = (((25 * n + t.val) * 1 + 0) * 8 + r.val) * 128 + l.val
    omega)

/-- The third window's block is the weights. -/
theorem iblk2 (t : Fin cfg0.N) : iblk m c 2 t = X4 m c := by
  blk_ext! [iblk, V, idx t]

/-- The fourth window's block is the bias. -/
theorem iblk3 (t : Fin cfg0.N) : iblk m c 3 t = X5 m c := by
  blk_ext! [iblk, V, idx t]

/-- What step `t` of a block offers the bound at row `r`, lane `l`. -/
def offerOf (x0 : Vec Ideal S25x1x8x128x126 .f32) (x1 : Vec Ideal S25x1x8x128 .f32) (x2 : Vec Ideal S1x126 .f32)
    (x3 : Vec Ideal S1 .f32) (r : Fin 8) (l : Fin 128) (t : Fin 25) : EReal :=
  if x1 (ix4 t 0 r l) = 0 then big else sumAt x0 x2 t r l + x3 (ix1 0)

/-- What step `t` of point `n` offers it. -/
def offer (r : Fin 8) (l : Fin 128) (n : Fin cfg0.N) (t : Fin 25) : EReal :=
  offerOf (iblk m c 0 n) (iblk m c 1 n) (iblk m c 2 n) (iblk m c 3 n) r l t

/-- The lower bounds of what the accumulator holds after point `n`: those of every step so far. -/
theorem le_outs (r : Fin 8) (l : Fin 128) (b : EReal) : ∀ (n : ℕ) (hn : n < cfg0.N),
    b ≤ outsAt0 m c n hn (ix3 0 r l) ↔ ∀ (k : Fin cfg0.N), k.val ≤ n → ∀ t : Fin 25, b ≤ offer m c r l k t := by
  intro n
  induction n with
  | zero =>
    intro hn
    refine (le_outA (iblk m c 0 ⟨0, hn⟩) (iblk m c 1 ⟨0, hn⟩) (iblk m c 2 ⟨0, hn⟩) (iblk m c 3 ⟨0, hn⟩) r l b).trans ⟨fun h k hk => ?_, fun h => ?_⟩
    · obtain rfl : k = ⟨0, hn⟩ := Fin.ext (Nat.le_zero.mp hk)
      exact h
    · exact h ⟨0, hn⟩ le_rfl
  | succ n ih =>
    intro hn
    refine (le_outB (iblk m c 0 ⟨n + 1, hn⟩) (iblk m c 1 ⟨n + 1, hn⟩) (iblk m c 2 ⟨n + 1, hn⟩) (iblk m c 3 ⟨n + 1, hn⟩)
      (outsAt0 m c n (Nat.lt_of_succ_lt hn)) r l b).trans ⟨fun h k hk => ?_, fun h => ⟨?_, ?_⟩⟩
    · rcases Nat.lt_or_eq_of_le hk with hlt | heq
      · exact (ih (Nat.lt_of_succ_lt hn)).mp h.1 k (Nat.le_of_lt_succ hlt)
      · obtain rfl : k = ⟨n + 1, hn⟩ := Fin.ext heq
        exact h.2
    · exact (ih (Nat.lt_of_succ_lt hn)).mpr fun k hk => h k (Nat.le_succ_of_le hk)
    · exact h ⟨n + 1, hn⟩ le_rfl

/-- The last point is one. -/
theorem last_lt : 7 < cfg0.N := Nat.lt_of_lt_of_eq (by decide) N_0.symm

/-- The point a position is taken at. -/
def pointOf (T : Fin 200) : Fin cfg0.N := ⟨T.val / 25, Nat.lt_of_lt_of_eq (by omega) N_0.symm⟩

/-- Its step there. -/
def stepOf (T : Fin 200) : Fin 25 := ⟨T.val % 25, Nat.mod_lt _ (by decide)⟩

/-- The two give the position back. -/
theorem posOf (T : Fin 200) (h : 25 * (T.val / 25) + T.val % 25 < 200) : (⟨25 * (T.val / 25) + T.val % 25, h⟩ : Fin 200) = T :=
  Fin.ext (Nat.div_add_mod _ _)

/-- The last accumulator at an element is the result of the column that stands there. -/
theorem outs_result (r : Fin 8) (l : Fin 128) :
    IsResult (T := Fin 200) big (fun T i => X0 m c (ix3 T ⟨128 * r.val + l.val, col_lt r l⟩ i))
      (fun T => X1 m c (ix2 T ⟨128 * r.val + l.val, col_lt r l⟩)) (fun i => X4 m c (ix2 0 i)) (X5 m c (ix1 0))
      (outsAt0 m c 7 last_lt (ix3 0 r l)) := by
  refine ⟨fun T => sumAt (iblk m c 0 (pointOf T)) (iblk m c 2 (pointOf T)) (stepOf T) r l, fun T => ?_, fun b => ?_⟩
  · have h := sumAt_rank (iblk m c 0 (pointOf T)) (iblk m c 2 (pointOf T)) (stepOf T) r l
    have e0 : (fun i => iblk m c 0 (pointOf T) (ix5 (stepOf T) 0 r l i))
        = fun i => X0 m c (ix3 T ⟨128 * r.val + l.val, col_lt r l⟩ i) := funext fun i =>
      (iblk0 m c (T.val / 25) (pointOf T).isLt (stepOf T) r l i).trans
        (congrArg (fun T' => X0 m c (ix3 T' ⟨128 * r.val + l.val, col_lt r l⟩ i)) (posOf T _))
    have e2 : (fun i => iblk m c 2 (pointOf T) (ix2 0 i)) = fun i => X4 m c (ix2 0 i) := funext fun i =>
      congrFun (iblk2 m c (pointOf T)) (ix2 0 i)
    exact (congrArg₂ (fun f w => IsRankSum f w (sumAt (iblk m c 0 (pointOf T)) (iblk m c 2 (pointOf T)) (stepOf T) r l)) e0 e2).mp h
  · refine (le_outs m c r l b 7 last_lt).trans ?_
    have ho : ∀ T : Fin 200, offer m c r l (pointOf T) (stepOf T)
        = if X1 m c (ix2 T ⟨128 * r.val + l.val, col_lt r l⟩) = 0 then big
          else sumAt (iblk m c 0 (pointOf T)) (iblk m c 2 (pointOf T)) (stepOf T) r l + X5 m c (ix1 0) := fun T => by
      have e1 : iblk m c 1 (pointOf T) (ix4 (stepOf T) 0 r l) = X1 m c (ix2 T ⟨128 * r.val + l.val, col_lt r l⟩) :=
        (iblk1 m c (T.val / 25) (pointOf T).isLt (stepOf T) r l).trans
          (congrArg (fun T' => X1 m c (ix2 T' ⟨128 * r.val + l.val, col_lt r l⟩)) (posOf T _))
      unfold offer offerOf
      rw [e1, iblk3 m c (pointOf T)]
    refine ⟨fun h T => ?_, fun h k _ t => ?_⟩
    · rw [← ho T]
      exact h (pointOf T) (by show T.val / 25 ≤ 7; omega) (stepOf T)
    · have hk : k.val < 8 := Nat.lt_of_lt_of_eq k.isLt N_0
      have hT : 25 * k.val + t.val < 200 := by omega
      have hp : pointOf ⟨25 * k.val + t.val, hT⟩ = k := Fin.ext (by show (25 * k.val + t.val) / 25 = k.val; omega)
      have hs : stepOf ⟨25 * k.val + t.val, hT⟩ = t := Fin.ext (by show (25 * k.val + t.val) % 25 = t.val; omega)
      have := h ⟨25 * k.val + t.val, hT⟩
      rw [← ho] at this
      rwa [hp, hs] at this

/-! ## The result array -/

/-- The last point. -/
def lastPt : Fin cfg0.N := ⟨7, last_lt⟩

/-- The output window's array ends as the last accumulator. -/
theorem final : (dats m 0 c).arrAt 4 cfg0.N = outsAt0 m c 7 last_lt := by
  refine (dats m 0 c).arrAt_eq_of_after_last 4 lastPt (by decide +kernel) _ fun j => ?_
  blk_simp
  rw [after0_4]
  rfl

/-- The kernel's result buffer, from what the run leaves. -/
theorem out_eq : Pipeline.afterTail₀ cfgs (dats m) 0 (V0 m) [hostOps1] c main_v3
    = shapeCast S1024x1 (outsAt0 m c 7 last_lt) shapeCasts_S1x8x128_S1024x1 := by
  unfold Pipeline.afterTail₀
  have e : Pipeline.withArrays (cfgs 0).spec c (V0 m c) (fun w => (dats m 0 c).arrAt w (cfgs 0).N) (Proc.devRef .tc main_v2)
      = outsAt0 m c 7 last_lt :=
    (Pipeline.withArrays_arr (cfgs 0).spec (by decide) c (V0 m c) (fun w => (dats m 0 c).arrAt w (cfgs 0).N) 4).trans (final m c)
  generalize Pipeline.withArrays (cfgs 0).spec c (V0 m c) (fun w => (dats m 0 c).arrAt w (cfgs 0).N) = W at e ⊢
  rw [← e]
  simp only [hostOps1, List.flatten_cons, List.flatten_nil, List.append_nil, List.cons_append, List.nil_append]
  after_results_simp
  try rfl

/-- The kernel's result. -/
def out : Vec Ideal S1024x1 .f32 := shapeCast S1024x1 (outsAt0 m c 7 last_lt) shapeCasts_S1x8x128_S1024x1

/-- Each column's entry of the result is the column's result. -/
theorem result_is (n : Fin 1024) :
    IsResult (T := Fin 200) big (fun T i => X0 m c (ix3 T n i)) (fun T => X1 m c (ix2 T n)) (fun i => X4 m c (ix2 0 i))
      (X5 m c (ix1 0)) (out m c (ix2 n 0)) := by
  have e : out m c (ix2 n 0) = outsAt0 m c 7 last_lt
      (ix3 (0 : Fin 1) (⟨n.val / 128, by omega⟩ : Fin 8) (⟨n.val % 128, Nat.mod_lt _ (by decide)⟩ : Fin 128)) :=
    shapeCast_apply _ _ _ _ (by
      rw [Shape.rowMajor_val_three, Shape.rowMajor_val_two]
      show (0 * 8 + n.val / 128) * 128 + n.val % 128 = n.val * 1 + 0
      omega)
  rw [e]
  have h := outs_result m c (⟨n.val / 128, by omega⟩ : Fin 8) (⟨n.val % 128, Nat.mod_lt _ (by decide)⟩ : Fin 128)
  have en : (⟨128 * (n.val / 128) + n.val % 128, col_lt (⟨n.val / 128, by omega⟩ : Fin 8) (⟨n.val % 128, Nat.mod_lt _ (by decide)⟩ : Fin 128)⟩
      : Fin 1024) = n := Fin.ext (Nat.div_add_mod _ _)
  dsimp only at h
  rw [en] at h
  exact h

/-- The kernel's run: every final state has the result at `out` and the arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v3) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨((h.1 c).2 main_v3 (Pipeline.mem_restRefs_of main_v3 (by decide) (by decide))).trans (out_eq m c), h.2 c⟩)
    (θ_run_and (run_main m ρ) (unchanged m ρ))

end Cert.KernelValue

end
-- ==== Proof.RefValue.lean ====
/- The reference's result at an element: the smallest, over the times, of the ranked sum plus the bias. -/
module

public import proofs.«01_k».proof.Proof.Ranked
public import proofs.«01_k».proof.Proof.Gen.ReferenceIdeal.Run
public import proofs.«01_k».proof.Proof.Gen.ReferenceIdeal.Read
public import Idealize.ShloMosaic.PureOps.Reduce
public import Idealize.ShloMosaic.Lib.SortFacts
public import Idealize.ShloMosaic.Lib.ValueIdx

@[expose] public section

set_option maxRecDepth 16384

noncomputable section

namespace Cert.RefValue

open Idealize.ShloMosaic Idealize.ShloMosaic.ValueIdx Cert.Ranked
open Cert.ReferenceIdeal Cert.ReferenceIdeal.Gen Cert.ReferenceIdeal.Read

/-- Different words do not compare equal. -/
theorem cmpi_ne (x y : BitVec 32) (h : x ≠ y) : IntOp.cmpi .eq x y = 0#1 := by
  show BitVec.ofBool (x == y) = 0#1
  rw [beq_eq_false_iff_ne.2 h]
  rfl

/-- The word of plus infinity is the largest value. -/
theorem top_bits : Ideal.ofBits .f32 0x7F800000#32 = ⊤ := by simp [Ideal.ofBits, Ideal.ieee]

/-- The sort's comparator is the order. -/
theorem comparator_iff (x y : EReal) : (comparator_f32_d2 (F := Ideal) x y == 1#1) = decide (x < y) := by
  have key : ∀ z : EReal, Scalar.select (Ideal.cmp .une z z) (Ideal.ofBits .f32 0x7FC00000#32)
      (Scalar.select (Ideal.cmp .oeq z (Ideal.ofBits .f32 0x00000000#32)) (Ideal.ofBits .f32 0x00000000#32) z) = z := by
    intro z
    rw [Ideal.ofBits_zero_f32]
    unfold Ideal.cmp Scalar.select
    by_cases h : z = 0
    · simp [h]
    · simp [h]
  show (Ideal.cmpTotal .lt (Scalar.select (Ideal.cmp .une x x) (Ideal.ofBits .f32 0x7FC00000#32)
      (Scalar.select (Ideal.cmp .oeq x (Ideal.ofBits .f32 0x00000000#32)) (Ideal.ofBits .f32 0x00000000#32) x))
    (Scalar.select (Ideal.cmp .une y y) (Ideal.ofBits .f32 0x7FC00000#32)
      (Scalar.select (Ideal.cmp .oeq y (Ideal.ofBits .f32 0x00000000#32)) (Ideal.ofBits .f32 0x00000000#32) y)) == 1#1) = _
  rw [key, key]
  show (BitVec.ofBool (decide (x < y)) == 1#1) = decide (x < y)
  cases decide (x < y) <;> rfl

/-- Which position of a line the sorted line's position comes from. -/
@[irreducible] def from' (f : Fin 126 → EReal) : Fin 126 → Fin 126 := sortedFrom fun k k' => decide (f k < f k')

/-- The sorted line ascends. -/
theorem from_mono (f : Fin 126 → EReal) (a b : Fin 126) (h : a ≤ b) : f (from' f a) ≤ f (from' f b) := by
  rcases h.lt_or_eq with h | rfl
  · have := sortedFrom_noInversion (fun k k' => decide (f k < f k')) (fun k k' => decide (f k < f k'))
      (fun a b h => by simp at h ⊢; exact h.le) (fun a b h => h)
      (fun a b c h h' => by simp at h h' ⊢; exact h'.trans h) a b h
    unfold from'
    exact not_lt.1 (of_decide_eq_false this)
  · exact le_refl _

/-- Every position comes from one position. -/
theorem from_bij (f : Fin 126 → EReal) : Function.Bijective (from' f) := by
  unfold from'
  exact ⟨sortedFrom_injective _, sortedFrom_surjective _⟩

/-- The rearrangement the sorted and reversed line is. -/
@[irreducible] def perm (f : Fin 126 → EReal) : Equiv.Perm (Fin 126) :=
  Fin.revPerm.trans (Equiv.ofBijective (from' f) (from_bij f))

/-- It takes a position to the source of its mirror image. -/
theorem perm_apply (f : Fin 126 → EReal) (i : Fin 126) : perm f i = from' f i.rev := by
  unfold perm
  rw [Equiv.trans_apply, Equiv.ofBijective_apply, Fin.revPerm_apply]

/-- The sorted and reversed line descends. -/
theorem perm_descends (f : Fin 126 → EReal) (a b : Fin 126) (h : a ≤ b) : f (perm f b) ≤ f (perm f a) := by
  rw [perm_apply, perm_apply]
  exact from_mono f _ _ (Fin.rev_le_rev.2 h)

/-- The sorted and reversed array at an element. -/
theorem flip_apply (x : S200x1024x126.Idx → EReal) (t : Fin 200) (n : Fin 1024) (i : Fin 126) :
    Host.reverse [2] (Host.sort S200x1024x126 2 (comparator_f32_d2 (F := Ideal)) x) (ix3 t n i) =
      x (ix3 t n (perm (fun k => x (ix3 t n k)) i)) := by
  have hal : ∀ (i k : Fin 126), Shape.Idx.along (s := S200x1024x126) (ix3 t n i) (⟨2, Nat.lt_succ_self 2⟩ : Fin 3) k = ix3 t n k := by
    intro i k
    funext a
    unfold Shape.Idx.along
    match a with
    | ⟨0, _⟩ => rfl
    | ⟨1, _⟩ => rfl
    | ⟨2, _⟩ => rfl
  have hr : Host.reverse [2] (Host.sort S200x1024x126 2 (comparator_f32_d2 (F := Ideal)) x) (ix3 t n i) =
      Host.sort S200x1024x126 2 (comparator_f32_d2 (F := Ideal)) x (ix3 t n i.rev) := by
    unfold Host.reverse
    refine congrArg _ (funext fun a => ?_)
    match a with
    | ⟨0, _⟩ => rfl
    | ⟨1, _⟩ => rfl
    | ⟨2, _⟩ => rfl
  rw [hr]
  unfold Host.sort
  rw [dif_pos (show 2 < S200x1024x126.rank by decide)]
  dsimp only
  refine (congrArg x (hal _ _)).trans (congrArg x (congrArg (ix3 t n) ?_))
  rw [perm_apply]
  unfold from'
  refine congrArg (fun g : Fin 126 → Fin 126 → Bool => sortedFrom g i.rev) (funext fun k => funext fun k' => ?_)
  refine Eq.trans ?_ (comparator_iff (x (ix3 t n k)) (x (ix3 t n k')))
  exact congrArg₂ (fun a b => comparator_f32_d2 (F := Ideal) (x a) (x b) == 1#1) (hal _ k) (hal _ k')

variable (x0 : (⟨S200x1024x126, .f32⟩ : BufTy).Contents (Elt Ideal)) (x1 : (⟨S200x1024, .f32⟩ : BufTy).Contents (Elt Ideal))
  (x2 : (⟨S1024x126, .i32⟩ : BufTy).Contents (Elt Ideal)) (x3 : (⟨S_, .f32⟩ : BufTy).Contents (Elt Ideal))
  (x4 : (⟨S1x126, .f32⟩ : BufTy).Contents (Elt Ideal)) (x5 : (⟨S1, .f32⟩ : BufTy).Contents (Elt Ideal))

/-- Classes that are not minus one leave the scores as they are. -/
theorem scores (hc : ∀ j : S1024x126.Idx, x2 j ≠ 4294967295#32) : val_main_v4 (F := Ideal) x0 x2 = x0 := by
  funext i
  rw [val_main_v4_apply, val_main_v3_apply, val_main_v1_apply, val_main_v0_apply, val_main_v2_apply, val_main_c_apply]
  have e : IntOp.cmpi .eq (x2 (idx_main_v0 (idx_main_v1 i))) 4294967295#32 = 0#1 := by
    exact cmpi_ne _ _ (hc _)
  rw [e]
  rfl

/-- The descending scores, the classes' second test included. -/
theorem descending (hc : ∀ j : S1024x126.Idx, x2 j ≠ 4294967295#32) (t : Fin 200) (n : Fin 1024) (i : Fin 126) :
    val_main_v9 (F := Ideal) x0 x2 x3 (ix3 t n i) = x0 (ix3 t n (perm (fun k => x0 (ix3 t n k)) i)) := by
  rw [val_main_v9_apply, val_main_v8_apply, val_main_v1_apply, val_main_v0_apply, val_main_v7_apply, val_main_c_0_apply]
  have e : IntOp.cmpi .eq (x2 (idx_main_v0 (idx_main_v1 (ix3 t n i)))) 4294967295#32 = 0#1 := by
    exact cmpi_ne _ _ (hc _)
  rw [e]
  show val_main_v6 (F := Ideal) x0 x2 (ix3 t n i) = _
  unfold val_main_v6 val_main_v5
  rw [scores x0 x2 hc]
  exact flip_apply x0 t n i

/-- The large value. -/
def big : EReal := Ideal.ofBits .f32 0x49742400#32

/-- The sum of the weights times the descending scores. -/
def rankSum (t : Fin 200) (n : Fin 1024) : EReal :=
  ∑ i : Fin 126, x0 (ix3 t n (perm (fun k => x0 (ix3 t n k)) i)) * x4 (ix2 0 i)

/-- It is a ranked sum. -/
theorem rankSum_is (t : Fin 200) (n : Fin 1024) :
    IsRankSum (fun i => x0 (ix3 t n i)) (fun i => x4 (ix2 0 i)) (rankSum x0 x4 t n) :=
  ⟨perm fun k => x0 (ix3 t n k), fun a b h => perm_descends (fun k => x0 (ix3 t n k)) a b h, by unfold rankSum; rfl⟩

/-- A time's value at a row. -/
theorem time_apply (hc : ∀ j : S1024x126.Idx, x2 j ≠ 4294967295#32) (t : Fin 200) (n : Fin 1024) :
    val_main_v22 (F := Ideal) x0 x1 x2 x3 x4 x5 (ix3 t n 0) =
      if x1 (ix2 t n) = 0 then big else rankSum x0 x4 t n + x5 (ix1 0) := by
  have e19 : val_main_v19 (F := Ideal) x1 (ix3 t n 0) = x1 (ix2 t n) := by
    rw [val_main_v19_apply]
    refine congrArg x1 (funext fun a => ?_)
    match a with
    | ⟨0, _⟩ => rfl
    | ⟨1, _⟩ => rfl
  have e17 : val_main_v17 (F := Ideal) x5 (ix3 t n 0) = x5 (ix1 0) := by
    rw [val_main_v17_apply, val_main_v16_apply]
    refine congrArg x5 (funext fun a => ?_)
    match a with
    | ⟨0, _⟩ => rfl
  rw [val_main_v22_apply, val_main_v21_apply, val_main_v20_apply, val_main_cst_2_apply, val_main_call5_v0_apply,
    val_main_cst_3_apply, val_main_v18_apply, e19, e17]
  show Scalar.select (Ideal.cmp .oeq (x1 (ix2 t n)) (Ideal.ofBits .f32 0x00000000#32)) big
    (val_main_v15 (F := Ideal) x0 x1 x2 x3 x4 (ix3 t n 0) + x5 (ix1 0)) = _
  rw [Ideal.ofBits_zero_f32]
  by_cases h : x1 (ix2 t n) = 0
  · rw [if_pos h]
    unfold Ideal.cmp Scalar.select
    simp [h]
  · rw [if_neg h]
    have es : Ideal.cmp .oeq (x1 (ix2 t n)) 0 = 0#1 := by
      unfold Ideal.cmp
      simp [h]
    rw [es]
    show val_main_v15 (F := Ideal) x0 x1 x2 x3 x4 (ix3 t n 0) + x5 (ix1 0) = _
    congr 1
    rw [val_main_v15_apply]
    unfold rankSum
    refine Finset.sum_congr rfl fun i _ => ?_
    have el : lidx_main_v15 (ix3 t n 0) i = ix3 t n i := funext fun a => by
      match a with
      | ⟨0, _⟩ => rfl
      | ⟨1, _⟩ => rfl
      | ⟨2, _⟩ => rfl
    have er : ridx_main_v15 (ix3 t n 0) i = ix2 0 i := funext fun a => by
      match a with
      | ⟨0, _⟩ => rfl
      | ⟨1, _⟩ => rfl
    rw [el, er]
    congr 1
    have e11 : val_main_v11 (F := Ideal) x1 (ix3 t n i) = x1 (ix2 t n) := by
      rw [val_main_v11_apply, val_main_v10_apply]
      refine congrArg x1 (funext fun a => ?_)
      match a with
      | ⟨0, _⟩ => rfl
      | ⟨1, _⟩ => rfl
    rw [val_main_v14_apply, val_main_v13_apply, val_main_v12_apply, val_main_cst_1_apply, e11, descending x0 x2 x3 hc]
    show Scalar.select (Ideal.cmp .oeq (x1 (ix2 t n)) (Ideal.ofBits .f32 0x00000000#32)) _ _ = _
    rw [Ideal.ofBits_zero_f32, es]
    rfl

/-- The result at a row, by its lower bounds. -/
theorem le_result (hc : ∀ j : S1024x126.Idx, x2 j ≠ 4294967295#32) (n : Fin 1024) (c : EReal) :
    c ≤ val_main_v23 (F := Ideal) x0 x1 x2 x3 x4 x5 (ix2 n 0) ↔
      ∀ t : Fin 200, c ≤ if x1 (ix2 t n) = 0 then big else rankSum x0 x4 t n + x5 (ix1 0) := by
  have hred : S200x1024x1.Reduces [0] S1024x1 := by decide
  unfold val_main_v23
  rw [Host.reduce_eq_fold_single (FloatOps.minimumf (F := Ideal) (φ := .f32)) _ _ reducesTo_S200x1024x1_S1024x1_d0 hred h_S_ (ix2 n 0),
    val_main_cst_4_apply]
  have hl : ∀ t : Fin 200, hred.lift (ix2 n 0) t = ix3 t n 0 := fun t => funext fun a => by
    match a with
    | ⟨0, _⟩ => rfl
    | ⟨1, _⟩ => rfl
    | ⟨2, _⟩ => rfl
  have hf : val_main_v22 (F := Ideal) x0 x1 x2 x3 x4 x5 ∘ hred.lift (ix2 n 0) =
      fun t : Fin 200 => if x1 (ix2 t n) = 0 then big else rankSum x0 x4 t n + x5 (ix1 0) := funext fun t =>
    (congrArg (val_main_v22 (F := Ideal) x0 x1 x2 x3 x4 x5) (hl t)).trans (time_apply x0 x1 x2 x3 x4 x5 hc t n)
  rw [hf]
  have ht : (FloatOps.ofBits .f32 0x7F800000#32 : Ideal .f32) = (⊤ : EReal) := top_bits
  rw [ht]
  have hm := Finset.le_fold_min (s := (Finset.univ : Finset (Fin 200))) (b := (⊤ : EReal))
    (f := fun t : Fin 200 => if x1 (ix2 t n) = 0 then big else rankSum x0 x4 t n + x5 (ix1 0)) c
  refine Iff.trans hm ?_
  simp

/-- The result at a row is the smallest, over the times, of the ranked sum plus the bias. -/
theorem result_is (hc : ∀ j : S1024x126.Idx, x2 j ≠ 4294967295#32) (n : Fin 1024) :
    IsResult (T := Fin 200) big (fun t i => x0 (ix3 t n i)) (fun t => x1 (ix2 t n)) (fun i => x4 (ix2 0 i)) (x5 (ix1 0))
      (val_main_v23 (F := Ideal) x0 x1 x2 x3 x4 x5 (ix2 n 0)) :=
  ⟨fun t => rankSum x0 x4 t n, fun t => rankSum_is x0 x4 t n, fun c => le_result x0 x1 x2 x3 x4 x5 hc n c⟩

end Cert.RefValue

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.LaunchBits
public import proofs.«01_k».proof.Proof.LaunchIdeal
public import proofs.«01_k».proof.Proof.KernelValue
public import proofs.«01_k».proof.Proof.RefValue
public import Idealize.ShloMosaic.Adequacy
public import Idealize.ShloMosaic.Init

@[expose] public section

set_option maxRecDepth 16384

noncomputable section

namespace Cert.Proof

open Idealize.ShloMosaic hiding ix1 ix2 ix3 ix4 ix5
open Idealize.SL.Sem Idealize.ShloMosaic.ValueIdx Cert.Ranked

/-- The facts the precondition's program states. -/
theorem preFacts : Cert.Pre_classes_in_range.Facts := ⟨by decide⟩

/-- Under the precondition no class is the padding class. -/
theorem class_ne (x0 : Vec Ideal ⟨3, ![200, 1024, 126]⟩ .f32) (x1 : Vec Ideal ⟨2, ![200, 1024]⟩ .f32)
    (x2 : IVec ⟨2, ![1024, 126]⟩ 32) (x3 : Vec Ideal ⟨0, ![]⟩ .f32) (x4 : Vec Ideal ⟨2, ![1, 126]⟩ .f32) (x5 : Vec Ideal ⟨1, ![1]⟩ .f32)
    (h : @Cert.Pre_classes_in_range.fn preFacts Ideal _ x0 x1 x2 x3 x4 x5 = fun _ => 1#1) (j : (⟨2, ![1024, 126]⟩ : Shape).Idx) :
    x2 j ≠ 4294967295#32 := by
  intro e
  have hj : IntOp.andi (IntOp.cmpi .sge (x2 j) 0#32) (IntOp.cmpi .slt (x2 j) 5#32) = 1#1 := congrFun h j
  rw [e] at hj
  revert hj
  decide

/-- A result every entry of which is its column's, is the reference's value of the same arguments. -/
theorem value_eq (x0 y0 : Vec Ideal ⟨3, ![200, 1024, 126]⟩ .f32) (x1 y1 : Vec Ideal ⟨2, ![200, 1024]⟩ .f32)
    (x2 y2 : IVec ⟨2, ![1024, 126]⟩ 32) (x3 y3 : Vec Ideal ⟨0, ![]⟩ .f32) (x4 y4 : Vec Ideal ⟨2, ![1, 126]⟩ .f32)
    (x5 y5 : Vec Ideal ⟨1, ![1]⟩ .f32) (e0 : y0 = x0) (e1 : y1 = x1) (e2 : y2 = x2) (e3 : y3 = x3) (e4 : y4 = x4) (e5 : y5 = x5)
    (hc : ∀ j, x2 j ≠ 4294967295#32) (z : Vec Ideal ⟨2, ![1024, 1]⟩ .f32)
    (hz : ∀ n : Fin 1024, IsResult (T := Fin 200) Cert.StepValue.big (fun T i => x0 (ix3 T n i)) (fun T => x1 (ix2 T n))
      (fun i => x4 (ix2 0 i)) (x5 (ix1 0)) (z (ix2 n 0))) :
    Cert.ReferenceIdeal.Read.val_main_v23 (F := Ideal) y0 y1 y2 y3 y4 y5 = z := by
  subst e0 e1 e2 e3 e4 e5
  funext j
  obtain ⟨n, rfl⟩ : ∃ n : Fin 1024, j = ix2 n (0 : Fin 1) := ⟨j 0, funext fun a => by
    match a with
    | ⟨0, _⟩ => rfl
    | ⟨1, _⟩ => exact Fin.ext (Nat.lt_one_iff.mp (j 1).isLt)⟩
  exact (Cert.RefValue.result_is y0 y1 y2 y3 y4 y5 hc n).unique (hz n)

/-- The reference's frame. -/
theorem frame_reference : @Cert.quiescent_ReferenceIdeal Cert.ReferenceIdeal.Gen.facts := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- The reference's frame under the precondition. -/
theorem frame_reference_pre :
    @Cert.quiescent_ReferenceIdeal_pre_classes_in_range Cert.ReferenceIdeal.Gen.facts preFacts := by
  intro m ρ _
  exact frame_reference m ρ trivial

/-- The idealized kernel's result is the reference's. -/
theorem algebraic :
    @Cert.algebraic_KernelIdeal_ReferenceIdeal_pre_classes_in_range Cert.KernelIdeal.Gen.facts Cert.ReferenceIdeal.Gen.facts preFacts := by
  intro m ρ m' ρ' hpre hargs
  refine ⟨fun c => Cert.KernelValue.out m c, Cert.KernelValue.run m ρ, ?_⟩
  refine (θ_run Cert.ReferenceIdeal.defs _ _).mono (fun r h c => ⟨?_, (h c).2⟩) (Cert.ReferenceIdeal.Value.run (F := Ideal) m' ρ')
  obtain ⟨a0, a1, a2, a3, a4, a5⟩ := hargs c
  refine (h c).1.trans ((Cert.ReferenceIdeal.Read.val_main_v23_eq _ _ _ _ _ _).trans ?_)
  exact value_eq _ _ _ _ _ _ _ _ _ _ _ _ a0 a1 a2 a3 a4 a5 (class_ne _ _ _ _ _ _ (hpre c)) _ (Cert.KernelValue.result_is m c)

/-- The certificate's claims, all together. -/
theorem claim : Cert.Claim :=
  ⟨Cert.Kernel.Gen.facts, Cert.KernelIdeal.Gen.facts, Cert.ReferenceIdeal.Gen.facts, preFacts,
    fun m ρ _ => Cert.Kernel.Launch.frame m ρ,
    fun m ρ _ => Cert.KernelIdeal.Launch.frame m ρ,
    fun m ρ _ => Cert.KernelIdeal.Launch.frame m ρ,
    frame_reference, frame_reference_pre, trivial, algebraic⟩

end Cert.Proof

end
